-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S8x512x512 : Shape := ⟨3, ![8, 512, 512]⟩
abbrev S8x512x2048 : Shape := ⟨3, ![8, 512, 2048]⟩
abbrev S_ : Shape := ⟨0, ![]⟩
abbrev S8 : Shape := ⟨1, ![8]⟩
abbrev S7 : Shape := ⟨1, ![7]⟩
abbrev S1x512x2048 : Shape := ⟨3, ![1, 512, 2048]⟩
abbrev S1x512x512 : Shape := ⟨3, ![1, 512, 512]⟩
abbrev S512x512 : Shape := ⟨2, ![512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S8x512x512, .fp8e4m3⟩
  | .local _ .vmem, ⟨3, _⟩ => ⟨S8x512x512, .fp8e4m3⟩
  | .local _ .vmem, ⟨4, _⟩ => ⟨S8x512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let v4 : BitVec 32 := Scalar.subi v3 c0_i32
  let c8_i32_1 : BitVec 32 := 8#32
  let v5 : BitVec 32 := Scalar.remsi v4 c8_i32_1
  let c512_i32 : BitVec 32 := 512#32
  let v6 : BitVec 32 := Scalar.muli v5 c512_i32
  let c0_i32_6 : BitVec 32 := 0#32
  ![v6.toNat, 0]
def k0_dev1 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v76 : BitVec 32 := Scalar.addi v2 c1_i32_64
  let c8_i32_65 : BitVec 32 := 8#32
  let v77 : BitVec 32 := Scalar.remsi v76 c8_i32_65
  let c1_i32_67 : BitVec 32 := 1#32
  let v78 : BitVec 32 := Scalar.muli v77 c1_i32_67
  let v79 : BitVec 32 := Scalar.addi c0_i32_68 v78
  v79.toNat
def k0_dev2 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_69 : BitVec 32 := 2#32
  let v80 : BitVec 32 := Scalar.addi v2 c2_i32_69
  let c8_i32_70 : BitVec 32 := 8#32
  let v81 : BitVec 32 := Scalar.remsi v80 c8_i32_70
  let c1_i32_72 : BitVec 32 := 1#32
  let v82 : BitVec 32 := Scalar.muli v81 c1_i32_72
  let v83 : BitVec 32 := Scalar.addi c0_i32_73 v82
  v83.toNat
def k0_dev3 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_74 : BitVec 32 := 3#32
  let v84 : BitVec 32 := Scalar.addi v2 c3_i32_74
  let c8_i32_75 : BitVec 32 := 8#32
  let v85 : BitVec 32 := Scalar.remsi v84 c8_i32_75
  let c1_i32_77 : BitVec 32 := 1#32
  let v86 : BitVec 32 := Scalar.muli v85 c1_i32_77
  let v87 : BitVec 32 := Scalar.addi c0_i32_78 v86
  v87.toNat
def k0_dev4 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_79 : BitVec 32 := 4#32
  let v88 : BitVec 32 := Scalar.addi v2 c4_i32_79
  let c8_i32_80 : BitVec 32 := 8#32
  let v89 : BitVec 32 := Scalar.remsi v88 c8_i32_80
  let c1_i32_82 : BitVec 32 := 1#32
  let v90 : BitVec 32 := Scalar.muli v89 c1_i32_82
  let v91 : BitVec 32 := Scalar.addi c0_i32_83 v90
  v91.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_84 : BitVec 32 := 5#32
  let v92 : BitVec 32 := Scalar.addi v2 c5_i32_84
  let c8_i32_85 : BitVec 32 := 8#32
  let v93 : BitVec 32 := Scalar.remsi v92 c8_i32_85
  let c1_i32_87 : BitVec 32 := 1#32
  let v94 : BitVec 32 := Scalar.muli v93 c1_i32_87
  let v95 : BitVec 32 := Scalar.addi c0_i32_88 v94
  v95.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_89 : BitVec 32 := 6#32
  let v96 : BitVec 32 := Scalar.addi v2 c6_i32_89
  let c8_i32_90 : BitVec 32 := 8#32
  let v97 : BitVec 32 := Scalar.remsi v96 c8_i32_90
  let c1_i32_92 : BitVec 32 := 1#32
  let v98 : BitVec 32 := Scalar.muli v97 c1_i32_92
  let v99 : BitVec 32 := Scalar.addi c0_i32_93 v98
  v99.toNat
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_94 : BitVec 32 := 7#32
  let v100 : BitVec 32 := Scalar.addi v2 c7_i32_94
  let c8_i32_95 : BitVec 32 := 8#32
  let v101 : BitVec 32 := Scalar.remsi v100 c8_i32_95
  let c1_i32_97 : BitVec 32 := 1#32
  let v102 : BitVec 32 := Scalar.muli v101 c1_i32_97
  let v103 : BitVec 32 := Scalar.addi c0_i32_98 v102
  v103.toNat
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_109 : BitVec 32 := 0#32
  let c0_i32_110 : BitVec 32 := 0#32
  ![v2.toNat, 0, 0]
def k0_off4 (d0 : Dev nD) (c1_i32_104 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v111 : BitVec 32 := Scalar.addi v2 c1_i32_104
  let c8_i32_105 : BitVec 32 := 8#32
  let v112 : BitVec 32 := Scalar.remsi v111 c8_i32_105
  let c0_i32_111 : BitVec 32 := 0#32
  let c0_i32_112 : BitVec 32 := 0#32
  ![v112.toNat, 0, 0]
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_104 : BitVec 32 := 1#32
  let v111 : BitVec 32 := Scalar.addi v2 c1_i32_104
  let c8_i32_105 : BitVec 32 := 8#32
  let v112 : BitVec 32 := Scalar.remsi v111 c8_i32_105
  let c1_i32_107 : BitVec 32 := 1#32
  let v113 : BitVec 32 := Scalar.muli v112 c1_i32_107
  let v114 : BitVec 32 := Scalar.addi c0_i32_108 v113
  v114.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v123 : BitVec 32 := Scalar.addi v2 c2_i32_113
  let c8_i32_114 : BitVec 32 := 8#32
  let v124 : BitVec 32 := Scalar.remsi v123 c8_i32_114
  let c1_i32_116 : BitVec 32 := 1#32
  let v125 : BitVec 32 := Scalar.muli v124 c1_i32_116
  let v126 : BitVec 32 := Scalar.addi c0_i32_117 v125
  v126.toNat
def k0_dev10 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v135 : BitVec 32 := Scalar.addi v2 c3_i32_122
  let c8_i32_123 : BitVec 32 := 8#32
  let v136 : BitVec 32 := Scalar.remsi v135 c8_i32_123
  let c1_i32_125 : BitVec 32 := 1#32
  let v137 : BitVec 32 := Scalar.muli v136 c1_i32_125
  let v138 : BitVec 32 := Scalar.addi c0_i32_126 v137
  v138.toNat
def k0_dev11 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v147 : BitVec 32 := Scalar.addi v2 c4_i32_131
  let c8_i32_132 : BitVec 32 := 8#32
  let v148 : BitVec 32 := Scalar.remsi v147 c8_i32_132
  let c1_i32_134 : BitVec 32 := 1#32
  let v149 : BitVec 32 := Scalar.muli v148 c1_i32_134
  let v150 : BitVec 32 := Scalar.addi c0_i32_135 v149
  v150.toNat
def k0_dev12 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_140 : BitVec 32 := 5#32
  let v159 : BitVec 32 := Scalar.addi v2 c5_i32_140
  let c8_i32_141 : BitVec 32 := 8#32
  let v160 : BitVec 32 := Scalar.remsi v159 c8_i32_141
  let c1_i32_143 : BitVec 32 := 1#32
  let v161 : BitVec 32 := Scalar.muli v160 c1_i32_143
  let v162 : BitVec 32 := Scalar.addi c0_i32_144 v161
  v162.toNat
def k0_dev13 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_149 : BitVec 32 := 6#32
  let v171 : BitVec 32 := Scalar.addi v2 c6_i32_149
  let c8_i32_150 : BitVec 32 := 8#32
  let v172 : BitVec 32 := Scalar.remsi v171 c8_i32_150
  let c1_i32_152 : BitVec 32 := 1#32
  let v173 : BitVec 32 := Scalar.muli v172 c1_i32_152
  let v174 : BitVec 32 := Scalar.addi c0_i32_153 v173
  v174.toNat
def k0_dev14 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_158 : BitVec 32 := 7#32
  let v183 : BitVec 32 := Scalar.addi v2 c7_i32_158
  let c8_i32_159 : BitVec 32 := 8#32
  let v184 : BitVec 32 := Scalar.remsi v183 c8_i32_159
  let c1_i32_161 : BitVec 32 := 1#32
  let v185 : BitVec 32 := Scalar.muli v184 c1_i32_161
  let v186 : BitVec 32 := Scalar.addi c0_i32_162 v185
  v186.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v208 : Index := Scalar.indexCast v2
  let c0_180 : Index := 0#32
  let c0_181 : Index := 0#32
  ![v208.toNat, 0, 0]
def k0_off6 (d0 : Dev nD) (c1_i32_188 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_187 : BitVec 32 := 8#32
  let v216 : BitVec 32 := Scalar.addi v2 c8_i32_187
  let v217 : BitVec 32 := Scalar.subi v216 c1_i32_188
  let c8_i32_189 : BitVec 32 := 8#32
  let v218 : BitVec 32 := Scalar.remsi v217 c8_i32_189
  ![v218.toNat]
def k0_off7 (d0 : Dev nD) (c1_i32_188 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_187 : BitVec 32 := 8#32
  let v216 : BitVec 32 := Scalar.addi v2 c8_i32_187
  let v217 : BitVec 32 := Scalar.subi v216 c1_i32_188
  let c8_i32_189 : BitVec 32 := 8#32
  let v218 : BitVec 32 := Scalar.remsi v217 c8_i32_189
  let c0_i32_193 : BitVec 32 := 0#32
  let c0_i32_194 : BitVec 32 := 0#32
  ![v218.toNat, 0, 0]
def k0_off8 (d0 : Dev nD) (c1_i32_188 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_187 : BitVec 32 := 8#32
  let v216 : BitVec 32 := Scalar.addi v2 c8_i32_187
  let v217 : BitVec 32 := Scalar.subi v216 c1_i32_188
  let c8_i32_189 : BitVec 32 := 8#32
  let v218 : BitVec 32 := Scalar.remsi v217 c8_i32_189
  let v234 : Index := Scalar.indexCast v218
  let c0_204 : Index := 0#32
  let c0_205 : Index := 0#32
  ![v234.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdeal.Slots.lean ====
/-
The kernel's buffers cut into eight slots, and what the slots hold.

`stage` and `gath` are [8, 512, 512] arrays: slot `s` is the [512, 512] page at leading coordinate `s`.
`chunks` is an [8, 512, 2048] array, cut in the same way. The weight array [4096, 2048] is cut into eight
blocks of 512 rows. Device `c` sends page `s` of its stage to device `s`, into page `c` of its `gath`.
-/
module

public import proofs.«01_k».proof.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The mesh as a ring -/

/-- The device `d` places after `c`. -/
def fw (c : Dev nD) (d : ℕ) : Dev nD := ⟨(c.val + d) % 8, Nat.mod_lt _ (by decide)⟩
/-- The device `d` places before `c`, for `d ≤ 8`. -/
def bk (c : Dev nD) (d : ℕ) : Dev nD := ⟨(c.val + (8 - d)) % 8, Nat.mod_lt _ (by decide)⟩

/-! ## The slots as memory references -/

abbrev tM : Memref sig .tc .vmem S8x512x512 .fp8e4m3 := Memref.whole cc0_scratch0
abbrev gM : Memref sig .tc .vmem S8x512x512 .fp8e4m3 := Memref.whole cc0_scratch1
abbrev kM : Memref sig .tc .vmem S8x512x2048 .f32 := Memref.whole cc0_scratch2
abbrev wM : Memref sig .tc .hbm S4096x2048 .f32 := Memref.whole main_arg1

abbrev tSlot (off : Fin 3 → ℕ) (h : ∀ i, off i + S1x512x512.size i ≤ S8x512x512.size i) : Memref sig .tc .vmem S512x512 .fp8e4m3 :=
  (tM.slice (Rect.unit (s := S8x512x512) off S1x512x512.size h) (fun _ => rfl)).squeeze S512x512 squeezes_S1x512x512_S512x512
abbrev gSlot (off : Fin 3 → ℕ) (h : ∀ i, off i + S1x512x512.size i ≤ S8x512x512.size i) : Memref sig .tc .vmem S512x512 .fp8e4m3 :=
  (gM.slice (Rect.unit (s := S8x512x512) off S1x512x512.size h) (fun _ => rfl)).squeeze S512x512 squeezes_S1x512x512_S512x512
abbrev kSlot (off : Fin 3 → ℕ) (h : ∀ i, off i + S1x512x2048.size i ≤ S8x512x2048.size i) : Memref sig .tc .vmem S512x2048 .f32 :=
  (kM.slice (Rect.unit (s := S8x512x2048) off S1x512x2048.size h) (fun _ => rfl)).squeeze S512x2048 squeezes_S1x512x2048_S512x2048
abbrev wSlot (off : Fin 2 → ℕ) (h : ∀ i, off i + S512x2048.size i ≤ S4096x2048.size i) : Memref sig .tc .hbm S512x2048 .f32 :=
  wM.slice (Rect.unit (s := S4096x2048) off S512x2048.size h) (fun _ => rfl)

theorem inbT (s : Fin 8) : ∀ i, (![s.val, 0, 0] : Fin 3 → ℕ) i + S1x512x512.size i ≤ S8x512x512.size i := by revert s; decide
theorem inbK (s : Fin 8) : ∀ i, (![s.val, 0, 0] : Fin 3 → ℕ) i + S1x512x2048.size i ≤ S8x512x2048.size i := by revert s; decide
theorem inbW (s : Fin 8) : ∀ i, (![512 * s.val, 0] : Fin 2 → ℕ) i + S512x2048.size i ≤ S4096x2048.size i := by revert s; decide

/-- Page `s` of the stage, -/
abbrev tS (s : Fin 8) : Memref sig .tc .vmem S512x512 .fp8e4m3 := tSlot ![s.val, 0, 0] (inbT s)
/-- of the gathered pages, -/
abbrev gS (s : Fin 8) : Memref sig .tc .vmem S512x512 .fp8e4m3 := gSlot ![s.val, 0, 0] (inbT s)
/-- of the weight chunks; -/
abbrev kS (s : Fin 8) : Memref sig .tc .vmem S512x2048 .f32 := kSlot ![s.val, 0, 0] (inbK s)
/-- and row block `s` of the weights. -/
abbrev wS (s : Fin 8) : Memref sig .tc .hbm S512x2048 .f32 := wSlot ![512 * s.val, 0] (inbW s)

theorem tSlot_eq {off : Fin 3 → ℕ} {h} {s : Fin 8} (e : off = ![s.val, 0, 0]) : tSlot off h = tS s := by subst e; rfl
theorem gSlot_eq {off : Fin 3 → ℕ} {h} {s : Fin 8} (e : off = ![s.val, 0, 0]) : gSlot off h = gS s := by subst e; rfl
theorem kSlot_eq {off : Fin 3 → ℕ} {h} {s : Fin 8} (e : off = ![s.val, 0, 0]) : kSlot off h = kS s := by subst e; rfl
theorem wSlot_eq {off : Fin 2 → ℕ} {h} {s : Fin 8} (e : off = ![512 * s.val, 0]) : wSlot off h = wS s := by subst e; rfl

theorem tS_set (s : Fin 8) : (tS s).view.set = (Rect.unit (s := S8x512x512) ![s.val, 0, 0] S1x512x512.size (inbT s)).set :=
  (Memref.set_view_squeeze _ squeezes_S1x512x512_S512x512).trans (View.set_slice_whole _ _)
theorem gS_set (s : Fin 8) : (gS s).view.set = (Rect.unit (s := S8x512x512) ![s.val, 0, 0] S1x512x512.size (inbT s)).set :=
  (Memref.set_view_squeeze _ squeezes_S1x512x512_S512x512).trans (View.set_slice_whole _ _)
theorem kS_set (s : Fin 8) : (kS s).view.set = (Rect.unit (s := S8x512x2048) ![s.val, 0, 0] S1x512x2048.size (inbK s)).set :=
  (Memref.set_view_squeeze _ squeezes_S1x512x2048_S512x2048).trans (View.set_slice_whole _ _)
theorem wS_set (s : Fin 8) : (wS s).view.set = (Rect.unit (s := S4096x2048) ![512 * s.val, 0] S512x2048.size (inbW s)).set :=
  View.set_slice_whole _ _

/-- A page's elements are those whose leading coordinate is its number. -/
theorem mem_page (s : Fin 8) (i : S8x512x512.Idx) :
    i ∈ (Rect.unit (s := S8x512x512) ![s.val, 0, 0] S1x512x512.size (inbT s)).set ↔ (i 0).val = s.val := by
  rw [Rect.mem_set_unit]
  constructor
  · intro h
    have := h 0
    have h1 : s.val ≤ (i 0).val ∧ (i 0).val < s.val + 1 := this
    omega
  · intro h a
    match a with
    | 0 => show s.val ≤ (i 0).val ∧ (i 0).val < s.val + 1; omega
    | 1 => exact ⟨Nat.zero_le _, by show (i 1).val < 0 + 512; rw [Nat.zero_add]; exact (i 1).isLt⟩
    | 2 => exact ⟨Nat.zero_le _, by show (i 2).val < 0 + 512; rw [Nat.zero_add]; exact (i 2).isLt⟩

theorem mem_chunk (s : Fin 8) (i : S8x512x2048.Idx) :
    i ∈ (Rect.unit (s := S8x512x2048) ![s.val, 0, 0] S1x512x2048.size (inbK s)).set ↔ (i 0).val = s.val := by
  rw [Rect.mem_set_unit]
  constructor
  · intro h
    have h1 : s.val ≤ (i 0).val ∧ (i 0).val < s.val + 1 := h 0
    omega
  · intro h a
    match a with
    | 0 => show s.val ≤ (i 0).val ∧ (i 0).val < s.val + 1; omega
    | 1 => exact ⟨Nat.zero_le _, by show (i 1).val < 0 + 512; rw [Nat.zero_add]; exact (i 1).isLt⟩
    | 2 => exact ⟨Nat.zero_le _, by show (i 2).val < 0 + 2048; rw [Nat.zero_add]; exact (i 2).isLt⟩

theorem mem_rows (s : Fin 8) (i : S4096x2048.Idx) :
    i ∈ (Rect.unit (s := S4096x2048) ![512 * s.val, 0] S512x2048.size (inbW s)).set ↔ (i 0).val / 512 = s.val := by
  rw [Rect.mem_set_unit]
  constructor
  · intro h
    have h1 : 512 * s.val ≤ (i 0).val ∧ (i 0).val < 512 * s.val + 512 := h 0
    omega
  · intro h a
    match a with
    | 0 => show 512 * s.val ≤ (i 0).val ∧ (i 0).val < 512 * s.val + 512; omega
    | 1 => exact ⟨Nat.zero_le _, by show (i 1).val < 0 + 2048; rw [Nat.zero_add]; exact (i 1).isLt⟩

/-- The eight slots of a buffer are disjoint and cover it. -/
theorem tS_disj : ∀ a b : Fin 8, a ≠ b → Disjoint (tS a).view.set (tS b).view.set := fun a b hab =>
  Finset.disjoint_left.mpr fun i ha hb => hab (Fin.ext (by
    rw [tS_set] at ha hb; exact ((mem_page a i).mp ha).symm.trans ((mem_page b i).mp hb)))
theorem gS_disj : ∀ a b : Fin 8, a ≠ b → Disjoint (gS a).view.set (gS b).view.set := fun a b hab =>
  Finset.disjoint_left.mpr fun i ha hb => hab (Fin.ext (by
    rw [gS_set] at ha hb; exact ((mem_page a i).mp ha).symm.trans ((mem_page b i).mp hb)))
theorem kS_disj : ∀ a b : Fin 8, a ≠ b → Disjoint (kS a).view.set (kS b).view.set := fun a b hab =>
  Finset.disjoint_left.mpr fun i ha hb => hab (Fin.ext (by
    rw [kS_set] at ha hb; exact ((mem_chunk a i).mp ha).symm.trans ((mem_chunk b i).mp hb)))
theorem wS_disj : ∀ a b : Fin 8, a ≠ b → Disjoint (wS a).view.set (wS b).view.set := fun a b hab =>
  Finset.disjoint_left.mpr fun i ha hb => hab (Fin.ext (by
    rw [wS_set] at ha hb; exact ((mem_rows a i).mp ha).symm.trans ((mem_rows b i).mp hb)))

theorem tS_cover : Finset.biUnion (β := S8x512x512.Idx) Finset.univ (fun s : Fin 8 => (tS s).view.set) = Finset.univ :=
  Finset.eq_univ_of_forall fun i => Finset.mem_biUnion.mpr ⟨i 0, Finset.mem_univ _, (Finset.ext_iff.mp (tS_set (i 0)) i).mpr ((mem_page (i 0) i).mpr rfl)⟩
theorem gS_cover : Finset.biUnion (β := S8x512x512.Idx) Finset.univ (fun s : Fin 8 => (gS s).view.set) = Finset.univ :=
  Finset.eq_univ_of_forall fun i => Finset.mem_biUnion.mpr ⟨i 0, Finset.mem_univ _, (Finset.ext_iff.mp (gS_set (i 0)) i).mpr ((mem_page (i 0) i).mpr rfl)⟩
theorem kS_cover : Finset.biUnion (β := S8x512x2048.Idx) Finset.univ (fun s : Fin 8 => (kS s).view.set) = Finset.univ :=
  Finset.eq_univ_of_forall fun i => Finset.mem_biUnion.mpr ⟨i 0, Finset.mem_univ _, (Finset.ext_iff.mp (kS_set (i 0)) i).mpr ((mem_chunk (i 0) i).mpr rfl)⟩
theorem wS_cover : Finset.biUnion (β := S4096x2048.Idx) Finset.univ (fun s : Fin 8 => (wS s).view.set) = Finset.univ :=
  Finset.eq_univ_of_forall fun i => Finset.mem_biUnion.mpr ⟨⟨(i 0).val / 512, by
      have : (i 0).val < 4096 := (i 0).isLt
      omega⟩, Finset.mem_univ _, by rw [wS_set]; exact (mem_rows _ i).mpr rfl⟩

/-! ## The slots' index maps -/

/-- Row `a` of row block `r` of the weights. -/
def rowIn (r : Fin 8) (a : Fin 512) : Fin 4096 := ⟨512 * r.val + a.val, by omega⟩

theorem tS_emb (s : Fin 8) (a b : Fin 512) : (tS s).view.emb (ix2 a b) = ix3 s a b := by
  show (Rect.unit (s := S8x512x512) ![s.val, 0, 0] S1x512x512.size (inbT s)).emb (Shape.reshapeEquiv _ (ix2 a b)) = _
  rw [reshapeEquiv_ix2_1ab]
  funext i
  match i with
  | 0 => exact Fin.ext (by rw [Rect.emb_apply]; show s.val + 1 * 0 = s.val; omega)
  | 1 => exact Fin.ext (by rw [Rect.emb_apply]; show 0 + 1 * a.val = a.val; omega)
  | 2 => exact Fin.ext (by rw [Rect.emb_apply]; show 0 + 1 * b.val = b.val; omega)
theorem gS_emb (s : Fin 8) (a b : Fin 512) : (gS s).view.emb (ix2 a b) = ix3 s a b := tS_emb s a b
theorem kS_emb (s : Fin 8) (a : Fin 512) (b : Fin 2048) : (kS s).view.emb (ix2 a b) = ix3 s a b := by
  show (Rect.unit (s := S8x512x2048) ![s.val, 0, 0] S1x512x2048.size (inbK s)).emb (Shape.reshapeEquiv _ (ix2 a b)) = _
  rw [reshapeEquiv_ix2_1ab]
  funext i
  match i with
  | 0 => exact Fin.ext (by rw [Rect.emb_apply]; show s.val + 1 * 0 = s.val; omega)
  | 1 => exact Fin.ext (by rw [Rect.emb_apply]; show 0 + 1 * a.val = a.val; omega)
  | 2 => exact Fin.ext (by rw [Rect.emb_apply]; show 0 + 1 * b.val = b.val; omega)
theorem wS_emb (r : Fin 8) (a : Fin 512) (b : Fin 2048) : (wS r).view.emb (ix2 a b) = ix2 (rowIn r a) b := by
  show (Rect.unit (s := S4096x2048) ![512 * r.val, 0] S512x2048.size (inbW r)).emb (ix2 a b) = _
  funext i
  match i with
  | 0 => exact Fin.ext (by rw [Rect.emb_apply]; show 512 * r.val + 1 * a.val = 512 * r.val + a.val; omega)
  | 1 => exact Fin.ext (by rw [Rect.emb_apply]; show 0 + 1 * b.val = b.val; omega)

/-! ## Contents -/

variable (m : (ℓ : Loc nD τ sig) → Buf (Elt F) ℓ)

/-- Device `c`'s block of `x`, as its staging buffer holds it, -/
def xstg (c : Dev nD) : (cc0_stg0_0 : Ref sig .tc).ty.Contents (Elt F) :=
  (win0_0.blk (0 : Fin 1)).view.read (Elt F) (m ((c : Thread nD τ).loc main_arg0))
/-- its two scales, -/
def s1stg (c : Dev nD) : (cc0_stg1_0 : Ref sig .tc).ty.Contents (Elt F) :=
  (win0_1.blk (0 : Fin 1)).view.read (Elt F) (m ((c : Thread nD τ).loc main_arg2))
def s2stg (c : Dev nD) : (cc0_stg2_0 : Ref sig .tc).ty.Contents (Elt F) :=
  (win0_2.blk (0 : Fin 1)).view.read (Elt F) (m ((c : Thread nD τ).loc main_arg3))
/-- its weights. -/
def wAt (c : Dev nD) : Buf (Elt F) ((c : Thread nD τ).loc main_arg1) := m ((c : Thread nD τ).loc main_arg1)

/-- The stage: the block of `x` cut into eight pages and narrowed to eight bits. -/
def stFull (c : Dev nD) : (cc0_scratch0 : Ref sig .tc).ty.Contents (Elt F) := k0_pay2 (k0_pay1 (xstg m c))
/-- The gathered pages, all landed: page `s` is page `c` of device `s`'s stage. -/
def gaFull (c : Dev nD) : (cc0_scratch1 : Ref sig .tc).ty.Contents (Elt F) :=
  fun i : S8x512x512.Idx => (stFull m (i 0) : S8x512x512.Idx → Elt F .fp8e4m3) (ix3 c (i 1) (i 2))
/-- The weight chunks, all landed: chunk `d` is the row block of the device `d` places before `c`. -/
def chFull (c : Dev nD) : (cc0_scratch2 : Ref sig .tc).ty.Contents (Elt F) :=
  fun i : S8x512x2048.Idx => (wAt m c : S4096x2048.Idx → Elt F .f32) (ix2 (rowIn (bk c (i 0).val) (i 1)) (i 2))

omit [FloatOps F] in
/-- An element of a page is at some row and column of it. -/
theorem of_mem_gS {s : Fin 8} {i : S8x512x512.Idx} (h : i ∈ (gS s).view.set) : ∃ a b, i = (gS s).view.emb (ix2 a b) := by
  obtain ⟨y, -, hy⟩ := Finset.mem_map.mp h
  exact ⟨y 0, y 1, by rw [← hy]; exact congrArg (gS s).view.emb (eq_ix2 (n0 := 512) (n1 := 512) y)⟩
omit [FloatOps F] in
theorem of_mem_kS {s : Fin 8} {i : S8x512x2048.Idx} (h : i ∈ (kS s).view.set) : ∃ a b, i = (kS s).view.emb (ix2 a b) := by
  obtain ⟨y, -, hy⟩ := Finset.mem_map.mp h
  exact ⟨y 0, y 1, by rw [← hy]; exact congrArg (kS s).view.emb (eq_ix2 (n0 := 512) (n1 := 2048) y)⟩

/-- Page `c` of device `s`'s stage, written over page `s` of device `c`'s gathered pages, is what that page is to hold. -/
theorem page_landed (c s : Dev nD) (fd : (cc0_scratch1 : Ref sig .tc).ty.Contents (Elt F)) :
    ∀ i ∈ (gS s).view.set, (gS s).view.write (Elt F) fd ((tS c).view.read (Elt F) (stFull m s)) Finset.univ i = gaFull m c i := by
  intro i hi
  obtain ⟨a, b, rfl⟩ := of_mem_gS hi
  refine (View.write_emb_of_mem _ _ (Finset.mem_univ _)).trans ?_
  rw [gS_emb]
  show (stFull m s) ((tS c).view.emb (ix2 a b)) = _
  rw [tS_emb]; rfl

/-- Row block `c - d` of the weights, written over chunk `d`, is what that chunk is to hold. -/
theorem chunk_landed (c : Dev nD) (d : Fin 8) (fd : (cc0_scratch2 : Ref sig .tc).ty.Contents (Elt F)) :
    ∀ i ∈ (kS d).view.set, (kS d).view.write (Elt F) fd ((wS (bk c d.val)).view.read (Elt F) (wAt m c)) Finset.univ i = chFull m c i := by
  intro i hi
  obtain ⟨a, b, rfl⟩ := of_mem_kS hi
  refine (View.write_emb_of_mem _ _ (Finset.mem_univ _)).trans ?_
  rw [kS_emb]
  show (wAt m c) ((wS (bk c d.val)).view.emb (ix2 a b)) = _
  rw [wS_emb]; rfl

end Cert.KernelIdeal.Exchange
-- ==== Proof.KernelIdeal.Protocol.lean ====
/-
The exchange's protocol: its semaphore cells, what each pays, what each device owes.

Every cell has one round.
* The barrier cell of device `c` receives one unit from each other device `p`; with it `p` lends `c` page `c`
  of `p`'s gathered pages, for `c`'s copy to land in.
* The receive cell `s` of device `c` is paid by device `s`'s copy: page `s` of `c`'s gathered pages, landed.
* The send cell `j` of device `c` is paid by `c`'s own copy to the device `j + 1` places after it: the page
  of the stage that was sent, given back.
* The local cell is paid by `c`'s copy of its own page; the weight cell `d` by the fetch of chunk `d`.
-/
module

public import proofs.«01_k».proof.Proof.KernelIdeal.Slots

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline's copy and the exchange's, whose duties are the paying devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The runtime's barrier semaphore. -/
abbrev barS : Sem sig := (SemArray.scalar (sig.barrier 0 rfl) : Sems sig S_).sem
/-- The kernel's own 24 transfer semaphores, -/
abbrev osem (k : Fin 24) : DmaSem sig := ⟨4 + k.val, Nat.add_lt_add_left k.isLt 4⟩
/-- by kind: the local copy's, -/
abbrev kL : Fin 24 := ⟨0, by decide⟩
/-- the weight fetches', -/
abbrev kW (d : Fin 8) : Fin 24 := ⟨1 + d.val, by omega⟩
/-- the sends', -/
abbrev kS' (j : Fin 7) : Fin 24 := ⟨9 + j.val, by omega⟩
/-- the receives'. -/
abbrev kR (s : Fin 8) : Fin 24 := ⟨16 + s.val, by omega⟩

abbrev barCell (c : Dev nD) : GSem nD τ sig := ((c : Thread nD τ), .reg barS)
abbrev dcell (c : Dev nD) (k : Fin 24) : GSem nD τ sig := ((c : Thread nD τ), .dma (osem k))

/-- All 25 semaphores of a device, the barrier first. -/
abbrev csem : Fin 25 → SemLoc sig := Fin.cases (.reg barS) (fun k => .dma (osem k))
abbrev kcell (ck : Dev nD × Fin 25) : GSem nD τ sig := ((ck.1 : Thread nD τ), csem ck.2)

/-- The credit of a page's transfer and of a weight chunk's. -/
def N : ℕ := sig.dmaCredit .tc (Kind.tc.table .vmem) gM.view.buf S512x512 .fp8e4m3
def NW : ℕ := sig.dmaCredit .tc (Kind.tc.table .vmem) kM.view.buf S512x2048 .f32
theorem N_pos : 0 < N := sig.dmaCredit_pos _ _ _ _ _ (by decide)
theorem NW_pos : 0 < NW := sig.dmaCredit_pos _ _ _ _ _ (by decide)
theorem credit_g (s : Fin 8) : (gS s).view.dmaCredit = N := rfl
theorem credit_t (s : Fin 8) : (tS s).view.dmaCredit = N := rfl
theorem credit_k (s : Fin 8) : (kS s).view.dmaCredit = NW := rfl

/-! ## What the transfers hand over -/

def tPts (c : Dev nD) (s : Fin 8) (f : Buf (Elt F) ((c : Thread nD τ).loc cc0_scratch0)) : sProp 𝕄 :=
  (tS s).view.loc (c : Thread nD τ) ↦[(tS s).view.set]{fullShare} f
def gPts (c : Dev nD) (s : Fin 8) (f : Buf (Elt F) ((c : Thread nD τ).loc cc0_scratch1)) : sProp 𝕄 :=
  (gS s).view.loc (c : Thread nD τ) ↦[(gS s).view.set]{fullShare} f
def kPts (c : Dev nD) (s : Fin 8) (f : Buf (Elt F) ((c : Thread nD τ).loc cc0_scratch2)) : sProp 𝕄 :=
  (kS s).view.loc (c : Thread nD τ) ↦[(kS s).view.set]{fullShare} f
def wPts (c : Dev nD) (s : Fin 8) (f : Buf (Elt F) ((c : Thread nD τ).loc main_arg1)) : sProp 𝕄 :=
  (wS s).view.loc (c : Thread nD τ) ↦[(wS s).view.set]{fullShare} f

omit [FloatOps F] in
instance tPts_storable (c s f) : BI.Storable (upEmb : UEmb _ 𝕄) (tPts (F := F) c s f) := by unfold tPts; infer_instance
omit [FloatOps F] in
instance gPts_storable (c s f) : BI.Storable (upEmb : UEmb _ 𝕄) (gPts (F := F) c s f) := by unfold gPts; infer_instance
omit [FloatOps F] in
instance kPts_storable (c s f) : BI.Storable (upEmb : UEmb _ 𝕄) (kPts (F := F) c s f) := by unfold kPts; infer_instance
omit [FloatOps F] in
instance wPts_storable (c s f) : BI.Storable (upEmb : UEmb _ 𝕄) (wPts (F := F) c s f) := by unfold wPts; infer_instance

/-- With its barrier unit device `p` lends `c` page `c` of its gathered pages. -/
def barPay (c p : Dev nD) : sProp 𝕄 := iprop(∃ f, gPts p c f)
/-- Page `s`, landed. -/
def recvPay (c : Dev nD) (s : Fin 8) : sProp 𝕄 := gPts c s (gaFull m c)
/-- The page sent to the device `j + 1` places on, back. -/
def sendPay (c : Dev nD) (j : Fin 7) : sProp 𝕄 := tPts c (fw c (j.val + 1)) (stFull m c)
/-- Chunk `d` landed, and the row block it was read from, back. -/
def wPay (c : Dev nD) (d : Fin 8) : sProp 𝕄 := iprop(kPts c d (chFull m c) ∗ wPts c (bk c d.val) (wAt m c))
/-- The own page landed, and the page of the stage it was read from, back. -/
def locPay (c : Dev nD) : sProp 𝕄 := iprop(gPts c c (gaFull m c) ∗ tPts c c (stFull m c))

def dmaPay (c : Dev nD) (k : Fin 24) : sProp 𝕄 :=
  if hr : 16 ≤ k.val then recvPay m c ⟨k.val - 16, by omega⟩
  else if hs : 9 ≤ k.val then sendPay m c ⟨k.val - 9, by omega⟩
  else if hw : 1 ≤ k.val then wPay m c ⟨k.val - 1, by omega⟩
  else locPay m c

instance dmaPay_storable (c : Dev nD) (k : Fin 24) : BI.Storable (upEmb : UEmb _ 𝕄) (dmaPay m c k) := by
  unfold dmaPay recvPay sendPay wPay locPay
  (repeat' split) <;> infer_instance
omit [FloatOps F] in
instance barPay_storable (c p : Dev nD) : BI.Storable (upEmb : UEmb _ 𝕄) (barPay (F := F) c p) := by
  unfold barPay; infer_instance

theorem dmaPay_recv (c : Dev nD) (s : Fin 8) : dmaPay m c (kR s) = recvPay m c s := by
  unfold dmaPay
  rw [dif_pos (show 16 ≤ (kR s).val from Nat.le_add_right _ _)]
  exact congrArg (recvPay m c) (Fin.ext (Nat.add_sub_cancel_left ..))
theorem dmaPay_send (c : Dev nD) (j : Fin 7) : dmaPay m c (kS' j) = sendPay m c j := by
  unfold dmaPay
  rw [dif_neg (show ¬ 16 ≤ (kS' j).val from fun h => by have : 16 ≤ 9 + j.val := h; omega),
    dif_pos (show 9 ≤ (kS' j).val from Nat.le_add_right _ _)]
  exact congrArg (sendPay m c) (Fin.ext (Nat.add_sub_cancel_left ..))
theorem dmaPay_w (c : Dev nD) (d : Fin 8) : dmaPay m c (kW d) = wPay m c d := by
  unfold dmaPay
  rw [dif_neg (show ¬ 16 ≤ (kW d).val from fun h => by have : 16 ≤ 1 + d.val := h; omega),
    dif_neg (show ¬ 9 ≤ (kW d).val from fun h => by have : 9 ≤ 1 + d.val := h; omega),
    dif_pos (show 1 ≤ (kW d).val from Nat.le_add_right _ _)]
  exact congrArg (wPay m c) (Fin.ext (Nat.add_sub_cancel_left ..))
theorem dmaPay_loc (c : Dev nD) : dmaPay m c kL = locPay m c := by
  unfold dmaPay
  rw [dif_neg (by decide), dif_neg (by decide), dif_neg (by decide)]

/-! ## The schedule -/

/-- The one duty of a transfer cell that one device pays: `0`, whichever device that is. A device's receive cell of its
    own number is never paid. -/
def dmaDuties (c : Dev nD) (q : DmaSem sig) : Finset (Dev nD) :=
  if 4 ≤ q.val ∧ q.val ≠ 20 + c.val then {0} else ∅

def exRd : Rounds.Schedule (GSem nD τ sig) (Dev nD) 𝕄 where
  duties g r :=
    if r = 0 ∧ g.1.2 = .tc then (match g.2 with | .reg _ => Finset.univ.erase g.1.1 | .dma q => dmaDuties g.1.1 q) else ∅
  unitless _ := False
  amount g _ _ := match g.2 with | .reg _ => 1 | .dma q => if 5 ≤ q.val ∧ q.val < 13 then NW else N
  payload g _ d := match g.2 with
    | .reg _ => barPay g.1.1 d
    | .dma q => if h : 4 ≤ q.val then dmaPay m g.1.1 ⟨q.val - 4, by have : q.val < 28 := q.isLt; omega⟩ else iprop(emp)
  amount_pos g _ _ _ := by
    rcases g with ⟨t, sm⟩
    cases sm with
    | reg _ => exact Nat.one_pos
    | dma q =>
      show 0 < if 5 ≤ q.val ∧ q.val < 13 then NW else N
      split
      · exact NW_pos
      · exact N_pos

instance exRd_payload_storable (g : GSem nD τ sig) (r : ℕ) (d : Dev nD) :
    BI.Storable (upEmb : UEmb _ 𝕄) ((exRd (F := F) m).payload g r d) := by
  rcases g with ⟨t, sm⟩
  cases sm with
  | reg _ => exact barPay_storable _ _
  | dma q =>
    show BI.Storable upEmb (if h : 4 ≤ q.val then dmaPay m t.1 ⟨q.val - 4, _⟩ else iprop(emp))
    split <;> infer_instance

section Sched
variable (c : Dev nD)

theorem duties_bar : (exRd (F := F) m).duties (barCell c) 0 = Finset.univ.erase c := by
  dsimp only [exRd]; exact if_pos ⟨rfl, rfl⟩
theorem duties_dma (k : Fin 24) (h : k.val ≠ 16 + c.val) : (exRd (F := F) m).duties (dcell c k) 0 = {0} := by
  dsimp only [exRd]
  rw [if_pos ⟨rfl, rfl⟩]
  show dmaDuties c (osem k) = _
  unfold dmaDuties
  exact if_pos ⟨Nat.le_add_right _ _, fun h' => by have : 4 + k.val = 20 + c.val := h'; omega⟩
theorem duties_own : (exRd (F := F) m).duties (dcell c (kR c)) 0 = ∅ := by
  dsimp only [exRd]
  rw [if_pos ⟨rfl, rfl⟩]
  show dmaDuties c (osem (kR c)) = _
  unfold dmaDuties
  exact if_neg fun h => h.2 (show 4 + (16 + c.val) = 20 + c.val by omega)
theorem duties_later (g : GSem nD τ sig) : ∀ r, 1 ≤ r → (exRd (F := F) m).duties g r = ∅ :=
  fun r hr => by dsimp only [exRd]; rw [if_neg fun h => by omega]

theorem amount_bar (d : Dev nD) : (exRd (F := F) m).amount (barCell c) 0 d = 1 := rfl
theorem amount_w (r : Fin 8) (d : Dev nD) : (exRd (F := F) m).amount (dcell c (kW r)) 0 d = NW := by
  dsimp only [exRd]
  exact if_pos ⟨show 5 ≤ 4 + (1 + r.val) by omega, show 4 + (1 + r.val) < 13 by omega⟩
theorem amount_page (k : Fin 24) (h : k.val = 0 ∨ 9 ≤ k.val) (d : Dev nD) : (exRd (F := F) m).amount (dcell c k) 0 d = N := by
  dsimp only [exRd]
  exact if_neg fun h' => by
    have h1 : 5 ≤ 4 + k.val := h'.1
    have h2 : 4 + k.val < 13 := h'.2
    omega

theorem payload_bar (d : Dev nD) : (exRd (F := F) m).payload (barCell c) 0 d = barPay c d := rfl
theorem payload_dma (k : Fin 24) (d : Dev nD) : (exRd (F := F) m).payload (dcell c k) 0 d = dmaPay m c k := by
  dsimp only [exRd]
  rw [dif_pos (show 4 ≤ (osem k).val from Nat.le_add_right _ _)]
  exact congrArg (dmaPay m c) (Fin.ext (Nat.add_sub_cancel_left ..))

theorem expect_bar : (exRd (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_w (r : Fin 8) : (exRd (F := F) m).expect (dcell c (kW r)) 0 = NW := by
  unfold Schedule.expect Schedule.amountOf
  rw [duties_dma m c _ (fun h => by have : 1 + r.val = 16 + c.val := h; omega), Finset.sum_singleton, amount_w]
theorem expect_page (k : Fin 24) (h : k.val = 0 ∨ 9 ≤ k.val) (hc : k.val ≠ 16 + c.val) :
    (exRd (F := F) m).expect (dcell c k) 0 = N := by
  unfold Schedule.expect Schedule.amountOf
  rw [duties_dma m c _ hc, Finset.sum_singleton, amount_page m c k h]

theorem rest_bar : bigSep ((exRd (F := F) m).duties (barCell c) 0 \ ∅) (fun d => (exRd (F := F) m).payload (barCell c) 0 d)
    = bigSep (Finset.univ.erase c) (fun p => barPay (F := F) c p) := by
  rw [Finset.sdiff_empty, duties_bar]; rfl
theorem rest_dma (k : Fin 24) (h : k.val ≠ 16 + c.val) :
    bigSep ((exRd (F := F) m).duties (dcell c k) 0 \ ∅) (fun d => (exRd (F := F) m).payload (dcell c k) 0 d) = dmaPay m c k := by
  rw [Finset.sdiff_empty, duties_dma m c k h, bigSep_singleton, payload_dma]

end Sched

/-! ## What each device owes at launch; the levels -/

/-- What device `c` owes with `n` sends to go: the credit of its page on the receive cells of the devices `8 - n … 7`
    places after it, the next send's last. -/
def Osend (c : Dev nD) : ℕ → CellTallies nD τ sig Unit
  | 0 => 0
  | n + 1 => Osend c n + tallyAt (dcell (fw c (7 - n)) (kR c)) () N
/-- What it owes with `n` barrier signals to go, before any send. -/
def Obar (c : Dev nD) : ℕ → CellTallies nD τ sig Unit
  | 0 => Osend c 7
  | n + 1 => Obar c n + tallyAt (barCell (fw c (7 - n))) () 1
/-- What it owes at launch. -/
def O₀ (c : Dev nD) : CellTallies nD τ sig Unit := Obar c 7

def L (g : GSem nD τ sig) : Finset Unit := if g.1.2 = .tc then {()} else ∅
/-- Barrier cells at 1, receive cells at 2, all others at 0. -/
def lv (g : GSem nD τ sig) (_ : Unit) : ℕ := match g.2 with | .reg _ => 1 | .dma q => if 20 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s : Fin 8) (u : Unit) : lv (dcell c (kR s)) u = 2 := by
  dsimp only [lv]; exact if_pos (show 20 ≤ 4 + (16 + s.val) by omega)

theorem tallyAt_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

theorem Osend_pos {c : Dev nD} {g : GSem nD τ sig} {u : Unit} : ∀ n, 0 < Osend c n g u → ∃ p, g = dcell p (kR c)
  | 0, h => absurd h (Nat.lt_irrefl 0)
  | n + 1, h => by
    have h' : 0 < Osend c n g u + tallyAt (dcell (fw c (7 - n)) (kR c)) () N g u := h
    rcases Nat.add_pos_iff_pos_or_pos.mp h' with h | h
    · exact Osend_pos n h
    · exact ⟨_, tallyAt_pos h⟩

theorem Obar_pos {c : Dev nD} {g : GSem nD τ sig} {u : Unit} : ∀ n, 0 < Obar c n g u → (∃ p, g = dcell p (kR c)) ∨ ∃ p, g = barCell p
  | 0, h => .inl (Osend_pos 7 h)
  | n + 1, h => by
    have h' : 0 < Obar c n g u + tallyAt (barCell (fw c (7 - n))) () 1 g u := h
    rcases Nat.add_pos_iff_pos_or_pos.mp h' with h | h
    · exact Obar_pos n h
    · exact .inr ⟨_, tallyAt_pos h⟩

omit [FloatOps F] in
/-- A device may wait on a staging semaphore (below 20) whatever it owes at launch or at the end. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases Obar_pos 7 hg with ⟨p, rfl⟩ | ⟨p, rfl⟩ <;> exact Finset.mem_singleton_self _)
      (fun p hp => by rw [Finset.mem_singleton.mp hp]; dsimp only [lv]; rw [if_neg (by omega)])
      (fun g u hg => by
        rcases Obar_pos 7 hg with ⟨p, rfl⟩ | ⟨p, rfl⟩
        · rw [lv_recv]; decide
        · exact Nat.one_pos)
  · rw [MayWait_zero]; iintro -; iempintro

omit [FloatOps F] in
/-- At its barrier wait a device owes only sends, on receive cells, which are above the barrier cells. -/
theorem mayWait_bar (c : Dev nD) :
    (levAts L lv : sProp 𝕄) ⊢ MayWait (c : Thread nD τ) (.reg barS) () (Osend c 7) :=
  MayOwe.of_cut (L := L) (lev := lv) 1 (fun p hp => by rw [Finset.mem_singleton.mp hp, L_tc]; exact Finset.mem_singleton_self _)
    (fun g u hg => by obtain ⟨p, rfl⟩ := Osend_pos 7 hg; exact Finset.mem_singleton_self _)
    (fun p hp => by rw [Finset.mem_singleton.mp hp]; exact Nat.le_refl _)
    (fun g u hg => by obtain ⟨p, rfl⟩ := Osend_pos 7 hg; rw [lv_recv]; decide)

/-! ## Ghost state -/

/-- Every cell's invariant, under the names `K`, and that every cell has reached its round. -/
def world (K : Dev nD × Fin 25 → ℕ) : sProp 𝕄 :=
  iprop(bigSep Finset.univ (fun ck : Dev nD × Fin 25 => cellInv ER (exRd m) (K ck) (kcell ck))
    ∗ bigSep Finset.univ (fun ck : Dev nD × Fin 25 => reached (ER (F := F)) (kcell ck) 0))

instance world_persistent (K : Dev nD × Fin 25 → ℕ) : BI.Persistent (world m K) := by unfold world; infer_instance

theorem world_inv_bar (K : Dev nD × Fin 25 → ℕ) (c : Dev nD) : world m K ⊢ cellInv ER (exRd m) (K (c, 0)) (barCell c) := by
  unfold world
  exact (BI.sep_and.trans and_elimL).trans
    (bigSep_elim (Φ := fun ck : Dev nD × Fin 25 => cellInv ER (exRd m) (K ck) (kcell ck)) (Finset.mem_univ (c, 0)))
theorem world_inv (K : Dev nD × Fin 25 → ℕ) (c : Dev nD) (k : Fin 24) :
    world m K ⊢ cellInv ER (exRd m) (K (c, k.succ)) (dcell c k) := by
  unfold world
  exact (BI.sep_and.trans and_elimL).trans
    (bigSep_elim (Φ := fun ck : Dev nD × Fin 25 => cellInv ER (exRd m) (K ck) (kcell ck)) (Finset.mem_univ (c, k.succ)))
theorem world_reached_bar (K : Dev nD × Fin 25 → ℕ) (c : Dev nD) : world m K ⊢ reached ER (barCell c) 0 := by
  unfold world
  exact (BI.sep_and.trans and_elimR).trans
    (bigSep_elim (Φ := fun ck : Dev nD × Fin 25 => reached (ER (F := F)) (kcell ck) 0) (Finset.mem_univ (c, 0)))
theorem world_reached (K : Dev nD × Fin 25 → ℕ) (c : Dev nD) (k : Fin 24) : world m K ⊢ reached ER (dcell c k) 0 := by
  unfold world
  exact (BI.sep_and.trans and_elimR).trans
    (bigSep_elim (Φ := fun ck : Dev nD × Fin 25 => reached (ER (F := F)) (kcell ck) 0) (Finset.mem_univ (c, k.succ)))

/-- What device `c` starts with of its own: its places on its 25 cells; the tokens of its own transfers (local, weights,
    sends); for each other device, the tokens of its barrier signal and of its page's arrival there. -/
def own (c : Dev nD) : sProp 𝕄 :=
  iprop(atPos (ER (F := F)) (barCell c) 0 ∅ 0
    ∗ bigSep Finset.univ (fun k : Fin 24 => atPos (ER (F := F)) (dcell c k) 0 ∅ 0)
    ∗ bigSep Finset.univ (fun k : Fin 16 => dutyTok (ER (F := F)) (dcell c (k.castLE (by decide))) 0 0)
    ∗ bigSep (Finset.univ.erase c) (fun p : Dev nD => dutyTok (ER (F := F)) (barCell p) 0 c)
    ∗ bigSep (Finset.univ.erase c) (fun p : Dev nD => dutyTok (ER (F := F)) (dcell p (kR c)) 0 0))

/-- What device `c`'s body starts from: all that, the credits of its barrier and receive cells, the levels. -/
def start (c : Dev nD) : sProp 𝕄 :=
  iprop((∃ K, world m K) ∗ own (F := F) c ∗ cred (tallyAt (barCell c) () 7)
    ∗ bigSep (Finset.univ.erase c) (fun s : Dev nD => cred (tallyAt (dcell c (kR s)) () N)) ∗ levAts L lv)

/-! ## The other devices, one by one -/

omit [FloatOps F] in
/-- A family over the devices other than `c`, going up from `c`, -/
theorem others_fw (c : Dev nD) (Φ : Dev nD → sProp 𝕄) : bigSep (Finset.univ.erase c) Φ
    = iprop(Φ (fw c 1) ∗ Φ (fw c 2) ∗ Φ (fw c 3) ∗ Φ (fw c 4) ∗ Φ (fw c 5) ∗ Φ (fw c 6) ∗ Φ (fw c 7)) := by
  rw [bigSep_eq_bigSepL_of_eq [fw c 1, fw c 2, fw c 3, fw c 4, fw c 5, fw c 6, fw c 7] (by revert c; decide) (by revert c; decide)]
  simp only [bigSepL_cons_cons, bigSepL_singleton]
  rfl
omit [FloatOps F] in
/-- and going down. -/
theorem others_bk (c : Dev nD) (Φ : Dev nD → sProp 𝕄) : bigSep (Finset.univ.erase c) Φ
    = iprop(Φ (bk c 1) ∗ Φ (bk c 2) ∗ Φ (bk c 3) ∗ Φ (bk c 4) ∗ Φ (bk c 5) ∗ Φ (bk c 6) ∗ Φ (bk c 7)) := by
  rw [bigSep_eq_bigSepL_of_eq [bk c 1, bk c 2, bk c 3, bk c 4, bk c 5, bk c 6, bk c 7] (by revert c; decide) (by revert c; decide)]
  simp only [bigSepL_cons_cons, bigSepL_singleton]
  rfl
omit [FloatOps F] in
/-- A family over all the slots, that of `c` first. -/
theorem slots_from (c : Dev nD) (Φ : Dev nD → sProp 𝕄) : bigSep Finset.univ Φ = iprop(Φ c ∗ bigSep (Finset.univ.erase c) Φ) :=
  bigSep_univ_at Φ c

theorem fw_ne (c : Dev nD) (j : Fin 7) : fw c (j.val + 1) ≠ c := by revert c j; decide
theorem bk_ne (c : Dev nD) (j : Fin 7) : bk c (j.val + 1) ≠ c := by revert c j; decide

end Cert.KernelIdeal.Exchange
-- ==== Proof.KernelIdeal.Steps.lean ====
/-
The kernel's effects as steps of the protocol: one rule per kind of effect, each at an arbitrary slot, device or
semaphore that an equation names.
-/
module

public import proofs.«01_k».proof.Proof.KernelIdeal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The semaphores the kernel names -/

/-- The one coordinate of a unit axis is zero. -/
theorem unit_coord (x : (Shape.mk 1 ![1]).Idx) : (x 0).val = 0 := Nat.lt_one_iff.mp (x 0).isLt

theorem sem_w (d : Fin 8) {off : Fin 1 → ℕ} {h} (e : off = ![d.val]) :
    ((cc0_scratch4.slice (Rect.unit (s := S8) off S1.size h)).squeeze S_ squeezes_S1_S_).sem = osem (kW d) := by
  subst e
  refine Fin.ext ?_
  show 5 + (S8.rowMajor ((Rect.unit (s := S8) ![d.val] S1.size h).emb _)).val = 4 + (1 + d.val)
  rw [Shape.rowMajor_val_one, Rect.emb_apply, unit_coord]
  show 5 + (d.val + 1 * 0) = _
  omega
theorem sem_s (j : Fin 7) {off : Fin 1 → ℕ} {h} (e : off = ![j.val]) :
    ((cc0_scratch5.slice (Rect.unit (s := S7) off S1.size h)).squeeze S_ squeezes_S1_S_).sem = osem (kS' j) := by
  subst e
  refine Fin.ext ?_
  show 13 + (S7.rowMajor ((Rect.unit (s := S7) ![j.val] S1.size h).emb _)).val = 4 + (9 + j.val)
  rw [Shape.rowMajor_val_one, Rect.emb_apply, unit_coord]
  show 13 + (j.val + 1 * 0) = _
  omega
theorem sem_r (s : Fin 8) {off : Fin 1 → ℕ} {h} (e : off = ![s.val]) :
    ((cc0_scratch6.slice (Rect.unit (s := S8) off S1.size h)).squeeze S_ squeezes_S1_S_).sem = osem (kR s) := by
  subst e
  refine Fin.ext ?_
  show 20 + (S8.rowMajor ((Rect.unit (s := S8) ![s.val] S1.size h).emb _)).val = 4 + (16 + s.val)
  rw [Shape.rowMajor_val_one, Rect.emb_apply, unit_coord]
  show 20 + (s.val + 1 * 0) = _
  omega
theorem sem_l : cc0_scratch3.sem = osem kL := by
  refine Fin.ext ?_
  show 4 + (S_.rowMajor _).val = 4 + 0
  have := (S_.rowMajor fun i => i.elim0).isLt
  have h : S_.numel = 1 := by decide
  omega

variable (K : Dev nD × Fin 25 → ℕ)

/-- Device `c` owes `O`, whatever it has waited for. -/
def owing (c : Dev nD) (O : CellTallies nD τ sig Unit) : sProp 𝕄 := iprop(∃ W, owes (c : Thread nD τ) O W)

/-! ## Transfers -/

/-- The fetch of chunk `d`: row block `c - d` of the weights copied into chunk `d`. -/
theorem wp_fetch (c : Dev nD) (d : Fin 8) {src : Memref sig .tc .hbm S512x2048 .f32} {dst : Memref sig .tc .vmem S512x2048 .f32} {q : DmaSem sig}
    (hs : src = wS (bk c d.val)) (hd : dst = kS d) (hq : q = osem (kW d))
    {hsrc : src.view.WordExact} {hdst : dst.view.WordExact} {hsem : DmaTarget.Typed (nD := nD) .hbm (.dma q) (.here (p := (c : Thread nD τ).2) dst)}
    {α : Type} {Q : α → sProp 𝕄} {k : PUnit → Prog (TpuEff nD τ sig (Elt F) Λ₀ .tc) α} (f : Buf (Elt F) ((c : Thread nD τ).loc cc0_scratch2)) :
    iprop(world m K ∗ wPts c (bk c d.val) (wAt m c) ∗ kPts c d f ∗ dutyTok ER (dcell c (kW d)) 0 0)
      ⊢ iprop((cred (tallyAt (dcell c (kW d)) () NW) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma q) hsrc hdst hsem) k) Q) := by
  subst hs hd hq
  have hne : (kW d).val ≠ 16 + c.val := fun h => by have : 1 + d.val = 16 + c.val := h; omega
  iintro ⟨#Hw, Hsrc, Hdst, Htok⟩
  ihave #Hi := (world_inv m K c (kW d)) $$ Hw
  ihave #Hr := (world_reached m K c (kW d)) $$ Hw
  unfold wPts kPts
  iapply (Rounds.wp_copy_pointsTo 𝒱₀ ER (exRd m) (c : Thread nD τ) none (src := wS (bk c d.val)) (dst := kS d)
    (sem := .dma (osem (kW d))) (κ := K (c, (kW d).succ)) (r := 0) (d := 0)
    (by rw [duties_dma m c _ hne]; exact Finset.mem_singleton_self _) () NW (credit_k d) (amount_w m c d 0)
    (by
      rw [payload_dma, dmaPay_w]
      unfold wPay kPts wPts
      rw [pointsTo_congr (chunk_landed m c d f)]))
  isplitr; · iexact Hi
  isplitl [Hsrc]; · iexact Hsrc
  isplitl [Hdst]; · iexact Hdst
  isplitl [Htok]; · iexact Htok
  iexact Hr

/-- The copy of the own page, stage to gathered pages. -/
theorem wp_local (c : Dev nD) {src dst : Memref sig .tc .vmem S512x512 .fp8e4m3} {q : DmaSem sig}
    (hs : src = tS c) (hd : dst = gS c) (hq : q = osem kL)
    {hsrc : src.view.WordExact} {hdst : dst.view.WordExact} {hsem : DmaTarget.Typed (nD := nD) .vmem (.dma q) (.here (p := (c : Thread nD τ).2) dst)}
    {α : Type} {Q : α → sProp 𝕄} {k : PUnit → Prog (TpuEff nD τ sig (Elt F) Λ₀ .tc) α} (f : Buf (Elt F) ((c : Thread nD τ).loc cc0_scratch1)) :
    iprop(world m K ∗ tPts c c (stFull m c) ∗ gPts c c f ∗ dutyTok ER (dcell c kL) 0 0)
      ⊢ iprop((cred (tallyAt (dcell c kL) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma q) hsrc hdst hsem) k) Q) := by
  subst hs hd hq
  have hne : (kL : Fin 24).val ≠ 16 + c.val := fun h => by have : 0 = 16 + c.val := h; omega
  iintro ⟨#Hw, Hsrc, Hdst, Htok⟩
  ihave #Hi := (world_inv m K c kL) $$ Hw
  ihave #Hr := (world_reached m K c kL) $$ Hw
  unfold tPts gPts
  iapply (Rounds.wp_copy_pointsTo 𝒱₀ ER (exRd m) (c : Thread nD τ) none (src := tS c) (dst := gS c)
    (sem := .dma (osem kL)) (κ := K (c, kL.succ)) (r := 0) (d := 0)
    (by rw [duties_dma m c _ hne]; exact Finset.mem_singleton_self _) () N (credit_g c) (amount_page m c kL (.inl rfl) 0)
    (by
      rw [payload_dma, dmaPay_loc]
      unfold locPay gPts tPts
      rw [pointsTo_congr (page_landed m c c f)]))
  isplitr; · iexact Hi
  isplitl [Hsrc]; · iexact Hsrc
  isplitl [Hdst]; · iexact Hdst
  isplitl [Htok]; · iexact Htok
  iexact Hr

/-- The send of page `n` of the stage to device `n`, `j + 1` places on, into page `c` of its gathered pages. -/
theorem wp_page (c n : Dev nD) (j : Fin 7) (hn : n = fw c (j.val + 1))
    {src : Memref sig .tc .vmem S512x512 .fp8e4m3} {dst : Memref sig (Dev.tc n : Thread nD τ).2.kind .vmem S512x512 .fp8e4m3} {q q' : DmaSem sig}
    (hs : src = tS (fw c (j.val + 1))) (hd : dst = gS c) (hq : q = osem (kS' j)) (hq' : q' = osem (kR c))
    {hsc : dst.view.ref.isScScratch = false} {hsrc : src.view.WordExact} {hdst : dst.view.WordExact}
    {hsem : DmaTarget.Typed .vmem (.dma q') (.remote (Dev.tc n : Thread nD τ) dst (.dma q) hsc)}
    {α : Type} {Q : α → sProp 𝕄} {k : PUnit → Prog (TpuEff nD τ sig (Elt F) Λ₀ .tc) α}
    (f : Buf (Elt F) ((fw c (j.val + 1) : Thread nD τ).loc cc0_scratch1)) :
    iprop(world m K ∗ tPts c (fw c (j.val + 1)) (stFull m c) ∗ gPts (fw c (j.val + 1)) c f ∗ owing c (Osend c (7 - j.val))
        ∗ dutyTok ER (dcell c (kS' j)) 0 0 ∗ dutyTok ER (dcell (fw c (j.val + 1)) (kR c)) 0 0)
      ⊢ iprop(((cred (tallyAt (dcell c (kS' j)) () N) ∗ owing c (Osend c (6 - j.val)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) k) Q) := by
  subst hn
  subst hs hd hq hq'
  have hne : (kS' j).val ≠ 16 + c.val := fun h => by have : 9 + j.val = 16 + c.val := h; omega
  have hne' : (kR c).val ≠ 16 + (fw c (j.val + 1)).val := fun h => by
    have h : 16 + c.val = 16 + (fw c (j.val + 1)).val := h
    exact fw_ne c j (Fin.ext (by omega))
  have hO : Osend c (7 - j.val) = Osend c (6 - j.val) + tallyAt (dcell (fw c (j.val + 1)) (kR c)) () N := by
    have e : 7 - j.val = (6 - j.val) + 1 := by omega
    rw [e]
    show Osend c (6 - j.val) + tallyAt (dcell (fw c (7 - (6 - j.val))) (kR c)) () N = _
    rw [show 7 - (6 - j.val) = j.val + 1 by omega]
  unfold owing
  iintro ⟨#Hw, Hsrc, Hdst, ⟨%W, HO⟩, Htok, Htok'⟩ Hk
  ihave #Hi := (world_inv m K c (kS' j)) $$ Hw
  ihave #Hr := (world_reached m K c (kS' j)) $$ Hw
  ihave #Hi' := (world_inv m K (fw c (j.val + 1)) (kR c)) $$ Hw
  ihave #Hr' := (world_reached m K (fw c (j.val + 1)) (kR c)) $$ Hw
  unfold tPts gPts
  iapply (Rounds.wp_send_pointsTo 𝒱₀ ER (exRd m) (c : Thread nD τ) none (c' := (fw c (j.val + 1) : Thread nD τ))
    (src := tS (fw c (j.val + 1))) (dst := gS c) (sS := .dma (osem (kS' j))) (sem := .dma (osem (kR c)))
    (κ₁ := K (c, (kS' j).succ)) (κ₂ := K (fw c (j.val + 1), (kR c).succ)) (r₁ := 0) (r₂ := 0) (d₁ := 0) (d₂ := 0) (fd := f)
    (by rw [duties_dma m c _ hne]; exact Finset.mem_singleton_self _)
    (by rw [duties_dma m _ _ hne']; exact Finset.mem_singleton_self _)
    () () N (credit_g c) (amount_page m c (kS' j) (.inr (Nat.le_add_right _ _)) 0)
    (amount_page m (fw c (j.val + 1)) (kR c) (.inr (show 9 ≤ 16 + c.val by omega)) 0) (Osend c (6 - j.val)) hO (W := W)
    (by rw [payload_dma, dmaPay_send]; unfold sendPay tPts; exact BI.Entails.refl _)
    (by
      rw [payload_dma, dmaPay_recv]
      unfold recvPay gPts
      rw [pointsTo_congr (page_landed m (fw c (j.val + 1)) c f)])) $$ [Hsrc Hdst HO Htok Htok']
  · isplitr; · iexact Hi
    isplitr; · iexact Hi'
    isplitl [Hsrc]; · iexact Hsrc
    isplitl [Hdst]; · iexact Hdst
    isplitl [HO]; · iexact HO
    isplitl [Htok]; · iexact Htok
    isplitr; · iexact Hr
    isplitl [Htok']; · iexact Htok'
    iexact Hr'
  iintro ⟨Hc, HO⟩
  iapply Hk
  isplitl [Hc]; · iexact Hc
  iexists W; iexact HO

/-! ## Signals and waits -/

/-- The barrier signal to the device `j + 1` places on, with page number that device of `c`'s gathered pages. -/
theorem wp_lend (c n : Dev nD) (j : Fin 7) (hn : n = fw c (j.val + 1))
    {α : Type} {Q : α → sProp 𝕄} {k : PUnit → Prog (TpuEff nD τ sig (Elt F) Λ₀ .tc) α} (f : Buf (Elt F) ((c : Thread nD τ).loc cc0_scratch1)) :
    iprop(world m K ∗ gPts c (fw c (j.val + 1)) f ∗ owing c (Obar c (7 - j.val)) ∗ dutyTok ER (barCell (fw c (j.val + 1))) 0 c)
      ⊢ iprop((owing c (Obar c (6 - j.val)) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst hn
  have hO : Obar c (7 - j.val) = Obar c (6 - j.val) + tallyAt (barCell (fw c (j.val + 1))) () 1 := by
    have e : 7 - j.val = (6 - j.val) + 1 := by omega
    rw [e]
    show Obar c (6 - j.val) + tallyAt (barCell (fw c (7 - (6 - j.val)))) () 1 = _
    rw [show 7 - (6 - j.val) = j.val + 1 by omega]
  unfold owing
  iintro ⟨#Hw, Hg, ⟨%W, HO⟩, Htok⟩ Hk
  ihave #Hi := (world_inv_bar m K (fw c (j.val + 1))) $$ Hw
  ihave #Hr := (world_reached_bar m K (fw c (j.val + 1))) $$ Hw
  iapply (Rounds.wp_signal 𝒱₀ ER (exRd m) (c : Thread nD τ) none (dst := (fw c (j.val + 1) : Thread nD τ)) (κ := K (fw c (j.val + 1), 0))
      (d := c) (by rw [duties_bar]; exact Finset.mem_erase.mpr ⟨(fw_ne c j).symm, Finset.mem_univ _⟩)
      (amount_bar m (fw c (j.val + 1)) c) () (Obar c (6 - j.val)) hO) $$ [Hg HO Htok]
  · isplitr; · iexact Hi
    isplitl [HO]; · iexact HO
    isplitl [Htok]; · iexact Htok
    isplitl [Hg]
    · rw [payload_bar]; unfold barPay; iexists f; iexact Hg
    iexact Hr
  iintro HO
  iapply Hk
  iexists W; iexact HO

/-- The barrier wait: every other device's page `c`, lent. -/
theorem wp_barrier (c : Dev nD) {α : Type} {Q : α → sProp 𝕄} {k : PUnit → Prog (TpuEff nD τ sig (Elt F) Λ₀ .tc) α} :
    iprop(world m K ∗ cred (tallyAt (barCell c) () 7) ∗ owing c (Osend c 7) ∗ levAts L lv ∗ atPos ER (barCell c) 0 ∅ 0)
      ⊢ iprop(((owing c (Osend c 7) ∗ semVal (barCell c) 0 ∗ bigSep (Finset.univ.erase c) (fun p => barPay (F := F) c p))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold owing
  iintro ⟨#Hw, Hc, ⟨%W, HO⟩, #Hlev, Hat⟩ Hk
  ihave #Hi := (world_inv_bar m K c) $$ Hw
  iapply (Rounds.wp_wait_rest_token 𝒱₀ ER (exRd m) (c : Thread nD τ) none (κ := K (c, 0))
      (wpE_semWait_eq 𝒱₀ (c : Thread nD τ) none Set.univ) (Set.mem_univ _) () (O := Osend c 7) (W := W) (R := 0) (m := 0) (T := ∅)
      (by rw [expect_bar])) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (exRd m) (Set.mem_univ (K (c, 0))) (fun h => h) (R := 0 + 1) (duties_later m (barCell c))) $$ [Hat] with Hz
  · isplitr; · iexact Hi
    iexact Hat
  iapply Hk
  isplitl [HO]; · iexists _; iexact HO
  isplitl [Hz]; · iexact Hz
  iexact Hp

/-- The wait on a transfer cell, owing nothing: what the transfer hands over, and the cell's counter back at zero. -/
theorem wp_take (c : Dev nD) (i : Fin 24) (n : ℕ) (hi : i.val ≠ 16 + c.val) (hn : (exRd m).expect (dcell c i) 0 = n)
    {sp sp' : Space} {s s' : Shape} {e e' : EltTy} {src : Memref sig .tc sp s e} {dst : Memref sig .tc sp' s' e'} {q : DmaSem sig}
    (hq : q = osem i) (hd : dst.view.dmaCredit = n)
    {hsrc : src.view.WordExact} {hdst : dst.view.WordExact}
    {α : Type} {Q : α → sProp 𝕄} {k : PUnit → Prog (TpuEff nD τ sig (Elt F) Λ₀ .tc) α} :
    iprop(world m K ∗ cred (tallyAt (dcell c i) () n) ∗ owing c 0 ∗ atPos ER (dcell c i) 0 ∅ 0)
      ⊢ iprop(((owing c 0 ∗ semVal (dcell c i) 0 ∗ dmaPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold owing
  iintro ⟨#Hw, Hc, ⟨%W, HO⟩, Hat⟩ Hk
  ihave #Hi := (world_inv m K c i) $$ Hw
  iapply (Rounds.wp_wait_rest_token 𝒱₀ ER (exRd m) (c : Thread nD τ) none (κ := K (c, i.succ))
      (wpE_waitDma2_eq 𝒱₀ (c : Thread nD τ) none Set.univ) (Set.mem_univ _) () (O := 0) (W := W) (R := 0) (m := 0) (T := ∅)
      (by rw [Nat.zero_add, hd, hn])) $$ [Hc HO Hat]
  · isplitr; · iexact Hi
    isplitl [Hc]; · rw [hd]; iexact Hc
    isplitl [HO]; · iexact HO
    isplitr; · rw [MayWait_zero]; iempintro
    iexact Hat
  iintro ⟨HO, Hat, -, Hpay⟩
  ihave Hp := (Entails.of_eq (rest_dma m c i hi)) $$ Hpay
  imod (Rounds.cell_close ER (exRd m) (Set.mem_univ (K (c, i.succ))) (fun h => h) (R := 0 + 1) (duties_later m (dcell c i))) $$ [Hat] with Hz
  · isplitr; · iexact Hi
    iexact Hat
  iapply Hk
  isplitl [HO]; · iexists _; iexact HO
  isplitl [Hz]; · iexact Hz
  iexact Hp

/-! ## What the steps leave -/

/-- A transfer of `n` bytes on its way into cell `i` of device `c`: its credit, and the cell not yet waited for. -/
def pending (c : Dev nD) (i : Fin 24) (n : ℕ) : sProp 𝕄 :=
  iprop(cred (tallyAt (dcell c i) () n) ∗ atPos (ER (F := F)) (dcell c i) 0 ∅ 0)
/-- A transfer that was waited for: the cell's counter at zero, and what the transfer hands over. -/
def arrived (c : Dev nD) (i : Fin 24) : sProp 𝕄 := iprop(semVal (dcell c i) 0 ∗ dmaPay m c i)

/-- The wait on a transfer cell: the transfer has arrived. -/
theorem wp_arrive (c : Dev nD) (i : Fin 24) (n : ℕ) (hi : i.val ≠ 16 + c.val) (hn : (exRd m).expect (dcell c i) 0 = n)
    {sp sp' : Space} {s s' : Shape} {e e' : EltTy} {src : Memref sig .tc sp s e} {dst : Memref sig .tc sp' s' e'} {q : DmaSem sig}
    (hq : q = osem i) (hd : dst.view.dmaCredit = n)
    {hsrc : src.view.WordExact} {hdst : dst.view.WordExact}
    {α : Type} {Q : α → sProp 𝕄} {k : PUnit → Prog (TpuEff nD τ sig (Elt F) Λ₀ .tc) α} :
    iprop(world m K ∗ pending c i n ∗ owing c 0)
      ⊢ iprop(((owing c 0 ∗ arrived m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold pending arrived
  iintro ⟨#Hw, ⟨Hc, Hat⟩, HO⟩ Hk
  iapply (wp_take m K c i n hi hn hq hd) $$ [Hc Hat HO]
  · iframe Hw Hc Hat HO
  iexact Hk

/-- The wait for chunk `d` of the weights, -/
theorem wp_arrive_w (c : Dev nD) (d : Fin 8)
    {sp sp' : Space} {s s' : Shape} {e e' : EltTy} {src : Memref sig .tc sp s e} {dst : Memref sig .tc sp' s' e'} {q : DmaSem sig}
    (hq : q = osem (kW d)) (hd : dst.view.dmaCredit = NW)
    {hsrc : src.view.WordExact} {hdst : dst.view.WordExact}
    {α : Type} {Q : α → sProp 𝕄} {k : PUnit → Prog (TpuEff nD τ sig (Elt F) Λ₀ .tc) α} :
    iprop(world m K ∗ pending c (kW d) NW ∗ owing c 0)
      ⊢ iprop(((owing c 0 ∗ arrived m c (kW d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  wp_arrive m K c (kW d) NW (fun h => by have : 1 + d.val = 16 + c.val := h; omega) (expect_w m c d) hq hd
/-- for the own page, -/
theorem wp_arrive_l (c : Dev nD)
    {sp sp' : Space} {s s' : Shape} {e e' : EltTy} {src : Memref sig .tc sp s e} {dst : Memref sig .tc sp' s' e'} {q : DmaSem sig}
    (hq : q = osem kL) (hd : dst.view.dmaCredit = N)
    {hsrc : src.view.WordExact} {hdst : dst.view.WordExact}
    {α : Type} {Q : α → sProp 𝕄} {k : PUnit → Prog (TpuEff nD τ sig (Elt F) Λ₀ .tc) α} :
    iprop(world m K ∗ pending c kL N ∗ owing c 0)
      ⊢ iprop(((owing c 0 ∗ arrived m c kL)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  have h0 : (kL : Fin 24).val ≠ 16 + c.val := fun h => by have : 0 = 16 + c.val := h; omega
  wp_arrive m K c kL N h0 (expect_page m c kL (.inl rfl) h0) hq hd
/-- for a page sent, to have left, -/
theorem wp_arrive_s (c : Dev nD) (j : Fin 7)
    {sp sp' : Space} {s s' : Shape} {e e' : EltTy} {src : Memref sig .tc sp s e} {dst : Memref sig .tc sp' s' e'} {q : DmaSem sig}
    (hq : q = osem (kS' j)) (hd : dst.view.dmaCredit = N)
    {hsrc : src.view.WordExact} {hdst : dst.view.WordExact}
    {α : Type} {Q : α → sProp 𝕄} {k : PUnit → Prog (TpuEff nD τ sig (Elt F) Λ₀ .tc) α} :
    iprop(world m K ∗ pending c (kS' j) N ∗ owing c 0)
      ⊢ iprop(((owing c 0 ∗ arrived m c (kS' j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  have h0 : (kS' j).val ≠ 16 + c.val := fun h => by have : 9 + j.val = 16 + c.val := h; omega
  wp_arrive m K c (kS' j) N h0 (expect_page m c (kS' j) (.inr (Nat.le_add_right _ _)) h0) hq hd
/-- for the page of the device `j + 1` places before. -/
theorem wp_arrive_r (c : Dev nD) (j : Fin 7)
    {sp sp' : Space} {s s' : Shape} {e e' : EltTy} {src : Memref sig .tc sp s e} {dst : Memref sig .tc sp' s' e'} {q : DmaSem sig}
    (hq : q = osem (kR (bk c (j.val + 1)))) (hd : dst.view.dmaCredit = N)
    {hsrc : src.view.WordExact} {hdst : dst.view.WordExact}
    {α : Type} {Q : α → sProp 𝕄} {k : PUnit → Prog (TpuEff nD τ sig (Elt F) Λ₀ .tc) α} :
    iprop(world m K ∗ pending c (kR (bk c (j.val + 1))) N ∗ owing c 0)
      ⊢ iprop(((owing c 0 ∗ arrived m c (kR (bk c (j.val + 1))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  have h0 : (kR (bk c (j.val + 1))).val ≠ 16 + c.val := fun h => by
    have h : 16 + (bk c (j.val + 1)).val = 16 + c.val := h
    exact bk_ne c j (Fin.ext (by omega))
  wp_arrive m K c (kR (bk c (j.val + 1))) N h0
    (expect_page m c _ (.inr (show 9 ≤ 16 + (bk c (j.val + 1)).val by omega)) h0) hq hd

/-! ## Loads and stores -/

/-- The output block, whole. -/
def outPts (c : Dev nD) (f : Buf (Elt F) ((c : Thread nD τ).loc cc0_stg3_0)) : sProp 𝕄 := (((c : Thread nD τ).loc cc0_stg3_0) ↦{fullShare} f)

/-- Page `s` of an array of pages, as a load reads it, -/
def pageOf (f : (cc0_scratch1 : Ref sig .tc).ty.Contents (Elt F)) (s : Fin 8) : Vec F S1x512x512 .fp8e4m3 :=
  (gM : Memref sig .tc .vmem S8x512x512 .fp8e4m3).view.readAt (Elt F)
    (Rect.unit (s := S8x512x512) ![s.val, 0, 0] S1x512x512.size (inbT s)).toLoadRect f
/-- and chunk `d` of an array of chunks. -/
def chunkOf (f : (cc0_scratch2 : Ref sig .tc).ty.Contents (Elt F)) (d : Fin 8) : Vec F S1x512x2048 .f32 :=
  (kM : Memref sig .tc .vmem S8x512x2048 .f32).view.readAt (Elt F)
    (Rect.unit (s := S8x512x2048) ![d.val, 0, 0] S1x512x2048.size (inbK d)).toLoadRect f

theorem wp_load_page (c : Dev nD) (s : Fin 8) {off : Fin 3 → ℕ} {h} (e : off = ![s.val, 0, 0]) (f : Buf (Elt F) ((c : Thread nD τ).loc cc0_scratch1))
    {hl : (gM : Memref sig .tc .vmem S8x512x512 .fp8e4m3).view.LoadsAt (Rect.unit (s := S8x512x512) off S1x512x512.size h).toLoadRect}
    {α : Type} {Q : α → sProp 𝕄} {k : Vec F S1x512x512 .fp8e4m3 → Prog (TpuEff nD τ sig (Elt F) Λ₀ .tc) α} :
    gPts c s f ⊢ iprop((gPts c s f -∗ wp frame (wpE (defs₀ (F := F)) 𝒱₀ (c : Thread nD τ) none) Set.univ (k (pageOf f s)) Q)
      -∗ wp frame (wpE (defs₀ (F := F)) 𝒱₀ (c : Thread nD τ) none) Set.univ
          (.op (.load gM (Rect.unit (s := S8x512x512) off S1x512x512.size h).toLoadRect hl) k) Q) := by
  subst e
  unfold gPts pageOf
  exact wp_load_rect 𝒱₀ (c : Thread nD τ) none Set.univ (m := gM) (r := Rect.unit (s := S8x512x512) ![s.val, 0, 0] S1x512x512.size (inbT s))
    (hl := hl) (S := (gS s).view.set) (by rw [gS_set]; exact (View.set_slice_whole _ _).le)
theorem wp_load_chunk (c : Dev nD) (d : Fin 8) {off : Fin 3 → ℕ} {h} (e : off = ![d.val, 0, 0]) (f : Buf (Elt F) ((c : Thread nD τ).loc cc0_scratch2))
    {hl : (kM : Memref sig .tc .vmem S8x512x2048 .f32).view.LoadsAt (Rect.unit (s := S8x512x2048) off S1x512x2048.size h).toLoadRect}
    {α : Type} {Q : α → sProp 𝕄} {k : Vec F S1x512x2048 .f32 → Prog (TpuEff nD τ sig (Elt F) Λ₀ .tc) α} :
    kPts c d f ⊢ iprop((kPts c d f -∗ wp frame (wpE (defs₀ (F := F)) 𝒱₀ (c : Thread nD τ) none) Set.univ (k (chunkOf f d)) Q)
      -∗ wp frame (wpE (defs₀ (F := F)) 𝒱₀ (c : Thread nD τ) none) Set.univ
          (.op (.load kM (Rect.unit (s := S8x512x2048) off S1x512x2048.size h).toLoadRect hl) k) Q) := by
  subst e
  unfold kPts chunkOf
  exact wp_load_rect 𝒱₀ (c : Thread nD τ) none Set.univ (m := kM) (r := Rect.unit (s := S8x512x2048) ![d.val, 0, 0] S1x512x2048.size (inbK d))
    (hl := hl) (S := (kS d).view.set) (by rw [kS_set]; exact (View.set_slice_whole _ _).le)

theorem zero2 : (![0, 0] : Fin 2 → ℕ) = fun _ => 0 := funext fun a => by fin_cases a <;> rfl
theorem zero3 : (![0, 0, 0] : Fin 3 → ℕ) = fun _ => 0 := funext fun a => by fin_cases a <;> rfl

theorem wp_load_out (c : Dev nD) {h} (f : Buf (Elt F) ((c : Thread nD τ).loc cc0_stg3_0))
    {hl : (Memref.whole cc0_stg3_0 : Memref sig .tc .vmem S512x2048 .f32).view.LoadsAt (Rect.unit (s := S512x2048) ![0, 0] S512x2048.size h).toLoadRect}
    {α : Type} {Q : α → sProp 𝕄} {k : Vec F S512x2048 .f32 → Prog (TpuEff nD τ sig (Elt F) Λ₀ .tc) α} :
    outPts c f ⊢ iprop((outPts c f -∗ wp frame (wpE (defs₀ (F := F)) 𝒱₀ (c : Thread nD τ) none) Set.univ (k f) Q)
      -∗ wp frame (wpE (defs₀ (F := F)) 𝒱₀ (c : Thread nD τ) none) Set.univ
          (.op (.load (Memref.whole cc0_stg3_0) (Rect.unit (s := S512x2048) ![0, 0] S512x2048.size h).toLoadRect hl) k) Q) := by
  unfold outPts
  iintro H Hk
  iapply (wp_load 𝒱₀ (c : Thread nD τ) none Set.univ (m := (Memref.whole cc0_stg3_0 : Memref sig .tc .vmem S512x2048 .f32)) (Finset.subset_univ _)) $$ H
  iintro H
  rw [show (Memref.whole cc0_stg3_0 : Memref sig .tc .vmem S512x2048 .f32).view.readAt (Elt F) (Rect.unit (s := S512x2048) ![0, 0] S512x2048.size h).toLoadRect f = f
    from Memref.readAt_unit_zero (Elt F) cc0_stg3_0 zero2 _ f]
  iapply Hk
  iexact H
theorem wp_store_out (c : Dev nD) {h} (f w : Buf (Elt F) ((c : Thread nD τ).loc cc0_stg3_0))
    {hx : ((Memref.whole cc0_stg3_0 : Memref sig .tc .vmem S512x2048 .f32).access (Rect.unit (s := S512x2048) ![0, 0] S512x2048.size h)).Stores Finset.univ} {hm}
    {α : Type} {Q : α → sProp 𝕄} {k : PUnit → Prog (TpuEff nD τ sig (Elt F) Λ₀ .tc) α} :
    outPts c f ⊢ iprop((outPts c w -∗ wp frame (wpE (defs₀ (F := F)) 𝒱₀ (c : Thread nD τ) none) Set.univ (k ⟨⟩) Q)
      -∗ wp frame (wpE (defs₀ (F := F)) 𝒱₀ (c : Thread nD τ) none) Set.univ
          (.op (.store (Memref.whole cc0_stg3_0) (Rect.unit (s := S512x2048) ![0, 0] S512x2048.size h) w Finset.univ hx hm) k) Q) := by
  unfold outPts
  iintro H Hk
  iapply (wp_store 𝒱₀ (c : Thread nD τ) none Set.univ (m := (Memref.whole cc0_stg3_0 : Memref sig .tc .vmem S512x2048 .f32))
    (r := Rect.unit (s := S512x2048) ![0, 0] S512x2048.size h) (Mk := Finset.univ) (Finset.subset_univ _)) $$ H
  iintro H
  rw [show ((Memref.whole cc0_stg3_0 : Memref sig .tc .vmem S512x2048 .f32).access (Rect.unit (s := S512x2048) ![0, 0] S512x2048.size h)).write (Elt F) f w Finset.univ = w
    from Memref.write_access_unit_zero_univ (Elt F) cc0_stg3_0 zero2 _ f w]
  iapply Hk
  iexact H

end Cert.KernelIdeal.Exchange
-- ==== Proof.KernelIdeal.Body.lean ====
/-
The kernel's body on one device, run once at a symbolic device: from what the launch deals it to what the exit needs.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 25 → ℕ)

/-! ## What the kernel computes -/

/-- The running sum after the pages of `n` other devices: device `c`'s own product, then those of the devices
    1, 2, …, `n` places before it. -/
def accN (c : Dev nD) : ℕ → Vec F S512x2048 .f32
  | 0 => k0_pay3 (pageOf (gaFull m c) c) (chunkOf (chFull m c) 0)
  | n + 1 => k0_pay4 (accN c n) (pageOf (gaFull m c) (bk c (n + 1))) (chunkOf (chFull m c) (Fin.ofNat 8 (n + 1)))

/-- The output block of device `c`: the sum of all eight products, times the product of the scales. -/
def outAt (c : Dev nD) : (cc0_stg3_0 : Ref sig .tc).ty.Contents (Elt F) :=
  k0_pay18 (k0_pay16 (accN m c 7)) (k0_pay17 (s1stg m c (Shape.Idx.first (numel1_S1.symm ▸ Nat.one_pos)))
    (s2stg m c (Shape.Idx.first (numel1_S1.symm ▸ Nat.one_pos))))

/-! ## Offsets and devices the body names, as places in the ring -/

theorem off1_eq (c : Dev nD) (d : Fin 8) : k0_off1 c (BitVec.ofNat 32 d.val) = ![512 * (bk c d.val).val, 0] := by
  rw [k0_off1_eq c d]; show ![512 * ((c.val + 8 - d.val) % 8), 0] = ![512 * ((c.val + (8 - d.val)) % 8), 0]
  rw [show c.val + 8 - d.val = c.val + (8 - d.val) by omega]
theorem off4_eq (c : Dev nD) (j : Fin 7) : k0_off4 c (BitVec.ofNat 32 (1 + j.val)) = ![(fw c (j.val + 1)).val, 0, 0] := k0_off4_eq c j
theorem back (c : Dev nD) (j : Fin 7) : (c.val + 7 - j.val) % 8 = (bk c (j.val + 1)).val := by
  show _ = (c.val + (8 - (j.val + 1))) % 8; rw [show c.val + 7 - j.val = c.val + (8 - (j.val + 1)) by omega]
theorem off6_eq (c : Dev nD) (j : Fin 7) : k0_off6 c (BitVec.ofNat 32 (1 + j.val)) = ![(bk c (j.val + 1)).val] := by
  rw [k0_off6_eq c j, back]
theorem off7_eq (c : Dev nD) (j : Fin 7) : k0_off7 c (BitVec.ofNat 32 (1 + j.val)) = ![(bk c (j.val + 1)).val, 0, 0] := by
  rw [k0_off7_eq c j, back]
theorem off8_eq (c : Dev nD) (j : Fin 7) : k0_off8 c (BitVec.ofNat 32 (1 + j.val)) = ![(bk c (j.val + 1)).val, 0, 0] := by
  rw [k0_off8_eq c j, back]

/-! ## One page's round -/

theorem arrived_r (c s : Dev nD) : arrived m c (kR s) = iprop(semVal (dcell c (kR s)) 0 ∗ gPts c s (gaFull m c)) := by
  unfold arrived; rw [dmaPay_recv]; rfl
theorem arrived_w (c : Dev nD) (d : Fin 8) :
    arrived m c (kW d) = iprop(semVal (dcell c (kW d)) 0 ∗ kPts c d (chFull m c) ∗ wPts c (bk c d.val) (wAt m c)) := by
  unfold arrived; rw [dmaPay_w]; rfl
theorem arrived_l (c : Dev nD) :
    arrived m c kL = iprop(semVal (dcell c kL) 0 ∗ gPts c c (gaFull m c) ∗ tPts c c (stFull m c)) := by
  unfold arrived; rw [dmaPay_loc]; rfl
theorem arrived_s (c : Dev nD) (j : Fin 7) :
    arrived m c (kS' j) = iprop(semVal (dcell c (kS' j)) 0 ∗ tPts c (fw c (j.val + 1)) (stFull m c)) := by
  unfold arrived; rw [dmaPay_send]; rfl

set_option maxHeartbeats 800000 in
/-- One round of the accumulation: wait for the page of the device `j + 1` places before and for its weight chunk,
    multiply, add to the output block. -/
theorem wp_round (c : Dev nD) (j : Fin 7) (d : Fin 8) (hd : d.val = j.val + 1) (a b : ℕ) (ha : j.val = a) (hb : j.val + 1 = b)
    {sp sp' : Space} {s s' : Shape} {e e' : EltTy} {src : Memref sig .tc sp s e} {dst : Memref sig .tc sp' s' e'} {q : DmaSem sig}
    {hsrc : src.view.WordExact} {hdst : dst.view.WordExact}
    {sp₁ sp₁' : Space} {s₁ s₁' : Shape} {e₁ e₁' : EltTy} {src₁ : Memref sig .tc sp₁ s₁ e₁} {dst₁ : Memref sig .tc sp₁' s₁' e₁'} {q₁ : DmaSem sig}
    {hsrc₁ : src₁.view.WordExact} {hdst₁ : dst₁.view.WordExact}
    {off off' : Fin 3 → ℕ} {ho ho' hg hg' hl₀ hl₁ hl₂ hl₃ hx hm}
    (hq : q = osem (kR (bk c (j.val + 1)))) (hn : dst.view.dmaCredit = N) (hq₁ : q₁ = osem (kW d)) (hn₁ : dst₁.view.dmaCredit = NW)
    (e₀ : off = ![(bk c (j.val + 1)).val, 0, 0]) (e₁ : off' = ![d.val, 0, 0])
    {p : Vec F S512x2048 .f32 → Vec F S1x512x512 .fp8e4m3 → Vec F S1x512x2048 .f32 → Vec F S512x2048 .f32}
    (hp : ∀ o g w, p o g w = k0_pay4 o g w)
    {α : Type} {Q : α → sProp 𝕄} {k : PUnit → Prog (TpuEff nD τ sig (Elt F) Λ₀ .tc) α} :
    world m K ⊢ iprop(pending c (kR (bk c (j.val + 1))) N -∗ pending c (kW d) NW -∗ owing c 0 -∗ outPts c (accN m c a) -∗ ((owing c 0 ∗ arrived m c (kR (bk c (j.val + 1))) ∗ arrived m c (kW d) ∗ outPts c (accN m c b))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q src dst hsrc hdst) fun _ => .op (.waitDma2 q₁ src₁ dst₁ hsrc₁ hdst₁) fun _ =>
              .op (.load (Memref.whole cc0_stg3_0) (Rect.unit (s := S512x2048) ![0, 0] S512x2048.size ho).toLoadRect hl₀) fun o =>
              .op (.load gM (Rect.unit (s := S8x512x512) off S1x512x512.size hg).toLoadRect hl₁) fun g =>
              .op (.load kM (Rect.unit (s := S8x512x2048) off' S1x512x2048.size hg').toLoadRect hl₂) fun w =>
              .op (.load (Memref.whole cc0_stg3_0) (Rect.unit (s := S512x2048) ![0, 0] S512x2048.size ho').toLoadRect hl₃) fun _ =>
              .op (.store (Memref.whole cc0_stg3_0) (Rect.unit (s := S512x2048) ![0, 0] S512x2048.size ho) (p o g w) Finset.univ hx hm) k) Q) := by
  subst ha hb
  iintro #Hw Hr Hk HO Hout Hnext
  iapply (wp_arrive_r m K c j hq hn) $$ [Hr HO]
  · iframe Hw Hr HO
  iintro ⟨HO, Hr⟩
  iapply (wp_arrive_w m K c d hq₁ hn₁) $$ [Hk HO]
  · iframe Hw Hk HO
  iintro ⟨HO, Hk⟩
  ihave Hr := (Entails.of_eq (arrived_r m c _)) $$ Hr
  ihave Hk := (Entails.of_eq (arrived_w m c _)) $$ Hk
  icases Hr with ⟨Hrz, Hr⟩
  icases Hk with ⟨Hkz, Hk, Hwt⟩
  iapply (wp_load_out c _) $$ Hout; iintro Hout
  iapply (wp_load_page c (bk c (j.val + 1)) e₀ _) $$ Hr; iintro Hr
  iapply (wp_load_chunk c d e₁ _) $$ Hk; iintro Hk
  iapply (wp_load_out c _) $$ Hout; iintro Hout
  iapply (wp_store_out c _ _) $$ Hout; iintro Hout
  rw [hp, show k0_pay4 (accN m c j.val) (pageOf (gaFull m c) (bk c (j.val + 1))) (chunkOf (chFull m c) d) = accN m c (j.val + 1) by
    rw [show d = Fin.ofNat 8 (j.val + 1) from Fin.ext (by rw [hd]; exact (Nat.mod_eq_of_lt (by omega)).symm)]; rfl]
  iapply Hnext
  rw [arrived_r, arrived_w]
  iframe

/-- The start of the accumulation: wait for the own weight chunk, multiply the own page, fill the output block. -/
theorem wp_first (c : Dev nD) (f : Buf (Elt F) ((c : Thread nD τ).loc cc0_stg3_0))
    {sp sp' : Space} {s s' : Shape} {e e' : EltTy} {src : Memref sig .tc sp s e} {dst : Memref sig .tc sp' s' e'} {q : DmaSem sig}
    {hsrc : src.view.WordExact} {hdst : dst.view.WordExact}
    {off off' : Fin 3 → ℕ} {ho hg hg' hl₁ hl₂ hl₃ hx hm}
    (hq : q = osem (kW 0)) (hn : dst.view.dmaCredit = NW) (e₀ : off = ![c.val, 0, 0]) (e₁ : off' = ![(0 : Fin 8).val, 0, 0])
    {α : Type} {Q : α → sProp 𝕄} {k : PUnit → Prog (TpuEff nD τ sig (Elt F) Λ₀ .tc) α} :
    world m K ⊢ iprop(arrived m c kL -∗ pending c (kW 0) NW -∗ owing c 0 -∗ outPts c f -∗ ((owing c 0 ∗ arrived m c kL ∗ arrived m c (kW 0) ∗ outPts c (accN m c 0))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 q src dst hsrc hdst) fun _ =>
              .op (.load gM (Rect.unit (s := S8x512x512) off S1x512x512.size hg).toLoadRect hl₁) fun g =>
              .op (.load kM (Rect.unit (s := S8x512x2048) off' S1x512x2048.size hg').toLoadRect hl₂) fun w =>
              .op (.load (Memref.whole cc0_stg3_0) (Rect.unit (s := S512x2048) ![0, 0] S512x2048.size ho).toLoadRect hl₃) fun _ =>
              .op (.store (Memref.whole cc0_stg3_0) (Rect.unit (s := S512x2048) ![0, 0] S512x2048.size ho) (k0_pay3 g w) Finset.univ hx hm) k) Q) := by
  iintro #Hw Hr Hk HO Hout Hnext
  iapply (wp_arrive_w m K c 0 hq hn) $$ [Hk HO]
  · iframe Hw Hk HO
  iintro ⟨HO, Hk⟩
  ihave Hr := (Entails.of_eq (arrived_l m c)) $$ Hr
  ihave Hk := (Entails.of_eq (arrived_w m c _)) $$ Hk
  icases Hr with ⟨Hrz, Hr, Hst⟩
  icases Hk with ⟨Hkz, Hk, Hwt⟩
  iapply (wp_load_page c c e₀ _) $$ Hr; iintro Hr
  iapply (wp_load_chunk c 0 e₁ _) $$ Hk; iintro Hk
  iapply (wp_load_out c _) $$ Hout; iintro Hout
  iapply (wp_store_out c _ _) $$ Hout; iintro Hout
  iapply Hnext
  rw [arrived_l, arrived_w]
  unfold accN
  iframe

/-! ## The resources, one bundle per step -/

/-- For the fetch of weight chunk `d`: the chunk and its row block, the token and the place on the cell. -/
def fetchRes (c : Dev nD) (d : Fin 8) : sProp 𝕄 :=
  iprop((∃ f, kPts c d f) ∗ wPts c (bk c d.val) (wAt m c) ∗ dutyTok (ER (F := F)) (dcell c (kW d)) 0 0 ∗ atPos (ER (F := F)) (dcell c (kW d)) 0 ∅ 0)
/-- For the barrier signal to the device `j + 1` places on: the page lent, the token. -/
def lendRes (c : Dev nD) (j : Fin 7) : sProp 𝕄 :=
  iprop((∃ f, gPts (F := F) c (fw c (j.val + 1)) f) ∗ dutyTok (ER (F := F)) (barCell (fw c (j.val + 1))) 0 c)
/-- For the send to the device `j + 1` places on: the tokens of both ends, the place on the own end. -/
def sendTok (c : Dev nD) (j : Fin 7) : sProp 𝕄 :=
  iprop(dutyTok (ER (F := F)) (dcell c (kS' j)) 0 0 ∗ dutyTok (ER (F := F)) (dcell (fw c (j.val + 1)) (kR c)) 0 0
    ∗ atPos (ER (F := F)) (dcell c (kS' j)) 0 ∅ 0)
/-- With the page to send and the page lent. -/
def sendRes (c : Dev nD) (j : Fin 7) : sProp 𝕄 :=
  iprop(sendTok c j ∗ tPts c (fw c (j.val + 1)) (stFull m c) ∗ barPay c (fw c (j.val + 1)))

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]
  simp only [bigSepL_cons_cons, bigSepL_singleton]
  rfl
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_eq_bigSepL_of_eq [0, 1, 2, 3, 4, 5, 6, 7] (by decide) (by decide)]
  simp only [bigSepL_cons_cons, bigSepL_singleton]
  rfl

/-- The fetch of weight chunk `d`, from its bundle. -/
theorem wp_fetch_res (c : Dev nD) (d : Fin 8) {src : Memref sig .tc .hbm S512x2048 .f32} {dst : Memref sig .tc .vmem S512x2048 .f32} {q : DmaSem sig}
    (hs : src = wS (bk c d.val)) (hd : dst = kS d) (hq : q = osem (kW d))
    {hsrc : src.view.WordExact} {hdst : dst.view.WordExact} {hsem : DmaTarget.Typed (nD := nD) .hbm (.dma q) (.here (p := (c : Thread nD τ).2) dst)}
    {α : Type} {Q : α → sProp 𝕄} {k : PUnit → Prog (TpuEff nD τ sig (Elt F) Λ₀ .tc) α} :
    world m K ⊢ iprop(fetchRes m c d -∗ (pending c (kW d) NW -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma q) hsrc hdst hsem) k) Q) := by
  unfold fetchRes pending
  iintro #Hw ⟨⟨%f, Hk⟩, Hwt, Ht, Hat⟩ Hnext
  iapply (wp_fetch m K c d hs hd hq f) $$ [Hk Hwt Ht]
  · iframe Hw Hk Hwt Ht
  iintro Hc
  iapply Hnext
  iframe

/-- The barrier signal, from its bundle. -/
theorem wp_lend_res (c n : Dev nD) (j : Fin 7) (a b : ℕ) (ha : 7 - j.val = a) (hb : 6 - j.val = b) (hn : n = fw c (j.val + 1))
    {α : Type} {Q : α → sProp 𝕄} {k : PUnit → Prog (TpuEff nD τ sig (Elt F) Λ₀ .tc) α} :
    world m K ⊢ iprop(lendRes c j -∗ owing c (Obar c a) -∗ (owing c (Obar c b) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst ha hb
  unfold lendRes
  iintro #Hw ⟨⟨%f, Hg⟩, Ht⟩ HO Hnext
  iapply (wp_lend m K c n j hn f) $$ [Hg Ht HO]
  · iframe Hw Hg Ht HO
  iexact Hnext

theorem sendRes_intro (c : Dev nD) (j : Fin 7) :
    sendTok (F := F) c j ⊢ iprop(tPts c (fw c (j.val + 1)) (stFull m c) -∗ barPay c (fw c (j.val + 1)) -∗ sendRes m c j) := by
  unfold sendRes
  iintro H1 H2 H3
  iframe
/-- The send, from its bundle. -/
theorem wp_page_res (c n : Dev nD) (j : Fin 7) (a b : ℕ) (ha : 7 - j.val = a) (hb : 6 - j.val = b) (hn : n = fw c (j.val + 1))
    {src : Memref sig .tc .vmem S512x512 .fp8e4m3} {dst : Memref sig (Dev.tc n : Thread nD τ).2.kind .vmem S512x512 .fp8e4m3} {q q' : DmaSem sig}
    (hs : src = tS (fw c (j.val + 1))) (hd : dst = gS c) (hq : q = osem (kS' j)) (hq' : q' = osem (kR c))
    {hsc : dst.view.ref.isScScratch = false} {hsrc : src.view.WordExact} {hdst : dst.view.WordExact}
    {hsem : DmaTarget.Typed .vmem (.dma q') (.remote (Dev.tc n : Thread nD τ) dst (.dma q) hsc)}
    {α : Type} {Q : α → sProp 𝕄} {k : PUnit → Prog (TpuEff nD τ sig (Elt F) Λ₀ .tc) α} :
    world m K ⊢ iprop(sendRes m c j -∗ owing c (Osend c a) -∗ ((pending c (kS' j) N ∗ owing c (Osend c b))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) k) Q) := by
  subst ha hb
  unfold sendRes sendTok barPay pending
  iintro #Hw ⟨⟨Ht, Ht', Hat⟩, Hsrc, ⟨%f, Hdst⟩⟩ HO Hnext
  iapply (wp_page m K c n j hn hs hd hq hq' f) $$ [Hsrc Hdst HO Ht Ht']
  · iframe Hw Hsrc Hdst HO Ht Ht'
  iintro ⟨Hc, HO⟩
  iapply Hnext
  iframe

/-- The copy of the own page. -/
theorem wp_local_res (c : Dev nD) {src dst : Memref sig .tc .vmem S512x512 .fp8e4m3} {q : DmaSem sig}
    (hs : src = tS c) (hd : dst = gS c) (hq : q = osem kL)
    {hsrc : src.view.WordExact} {hdst : dst.view.WordExact} {hsem : DmaTarget.Typed (nD := nD) .vmem (.dma q) (.here (p := (c : Thread nD τ).2) dst)}
    {α : Type} {Q : α → sProp 𝕄} {k : PUnit → Prog (TpuEff nD τ sig (Elt F) Λ₀ .tc) α} (f : Buf (Elt F) ((c : Thread nD τ).loc cc0_scratch1)) :
    world m K ⊢ iprop(tPts c c (stFull m c) -∗ gPts c c f -∗ dutyTok (ER (F := F)) (dcell c kL) 0 0 -∗ atPos (ER (F := F)) (dcell c kL) 0 ∅ 0
      -∗ (pending c kL N -∗ wp frame (wpE (defs₀ (F := F)) 𝒱₀ (c : Thread nD τ) none) Set.univ (k ⟨⟩) Q)
      -∗ wp frame (wpE (defs₀ (F := F)) 𝒱₀ (c : Thread nD τ) none) Set.univ
              (.op (.enqueueDma src (.here dst) (.dma q) hsrc hdst hsem) k) Q) := by
  unfold pending
  iintro #Hw Hsrc Hdst Ht Hat Hnext
  iapply (wp_local m K c hs hd hq f) $$ [Hsrc Hdst Ht]
  · iframe Hw Hsrc Hdst Ht
  iintro Hc
  iapply Hnext
  iframe

theorem credit_gSlot (off : Fin 3 → ℕ) (h) : (gSlot off h).view.dmaCredit = N := rfl
theorem credit_tSlot (off : Fin 3 → ℕ) (h) : (tSlot off h).view.dmaCredit = N := rfl
theorem credit_kSlot (off : Fin 3 → ℕ) (h) : (kSlot off h).view.dmaCredit = NW := rfl

theorem zero1 : (![0] : Fin 1 → ℕ) = fun _ => 0 := funext fun a => by fin_cases a; rfl

/-! ## The body -/

/-- What the body starts from, step by step. -/
def bodyRes (c : Dev nD) : sProp 𝕄 :=
  iprop(bigSep Finset.univ (fetchRes m c) ∗ bigSep Finset.univ (lendRes (F := F) c) ∗ bigSep Finset.univ (sendTok (F := F) c)
    ∗ bigSep Finset.univ (fun j : Fin 7 => pending (F := F) c (kR (bk c (j.val + 1))) N)
    ∗ cred (tallyAt (barCell c) () 7) ∗ levAts L lv ∗ atPos (ER (F := F)) (barCell c) 0 ∅ 0
    ∗ (∃ f, gPts (F := F) c c f) ∗ dutyTok (ER (F := F)) (dcell c kL) 0 0 ∗ atPos (ER (F := F)) (dcell c kL) 0 ∅ 0
    ∗ (∃ f, ((c : Thread nD τ).loc cc0_scratch0) ↦{fullShare} f))

/-- What it leaves: the barrier cell at zero, every transfer arrived. -/
def bodyEnd (c : Dev nD) : sProp 𝕄 :=
  iprop(semVal (barCell c) 0 ∗ arrived m c kL ∗ bigSep Finset.univ (fun d : Fin 8 => arrived m c (kW d))
    ∗ bigSep Finset.univ (fun j : Fin 7 => arrived m c (kS' j)) ∗ bigSep Finset.univ (fun j : Fin 7 => arrived m c (kR (bk c (j.val + 1)))))

/-- A family over the devices other than `c`, by their distance. -/
theorem others_fin (c : Dev nD) (Φ : Dev nD → sProp 𝕄) :
    bigSep (Finset.univ.erase c) Φ = bigSep Finset.univ (fun j : Fin 7 => Φ (fw c (j.val + 1))) := by
  rw [others_fw, bigSep_fin7]; rfl

/-- The stage, whole, is its pages: the own one, and those of the devices going up from `c`. -/
theorem stage_pages (c : Dev nD) (f : Buf (Elt F) ((c : Thread nD τ).loc cc0_scratch0)) :
    (((c : Thread nD τ).loc cc0_scratch0) ↦{fullShare} f : sProp 𝕄)
      = iprop(tPts c c f ∗ tPts c (fw c ((0 : Fin 7).val + 1)) f ∗ tPts c (fw c ((1 : Fin 7).val + 1)) f
        ∗ tPts c (fw c ((2 : Fin 7).val + 1)) f ∗ tPts c (fw c ((3 : Fin 7).val + 1)) f ∗ tPts c (fw c ((4 : Fin 7).val + 1)) f
        ∗ tPts c (fw c ((5 : Fin 7).val + 1)) f ∗ tPts c (fw c ((6 : Fin 7).val + 1)) f) := by
  rw [Ring.pointsTo_blocks (fun s : Fin 8 => (tS s).view.set) (fun a b h => tS_disj a b h) tS_cover f]
  refine (slots_from c (fun s => tPts c s f)).trans ?_
  rw [others_fin, bigSep_fin7]

set_option maxHeartbeats 3200000 in
/-- The body, run once at a symbolic device `c`, one rule per effect (or per round) in program order. -/
theorem run_body (c : Dev nD) (Kt : PUnit → sProp 𝕄) (f₃ : Buf (Elt F) ((c : Thread nD τ).loc cc0_stg3_0)) :
    iprop(world m K ∗ bodyRes m c ∗ owing c (Obar c 7)
        ∗ (((c : Thread nD τ).loc cc0_stg0_0) ↦{fullShare} (xstg m c : Buf (Elt F) ((c : Thread nD τ).loc cc0_stg0_0)))
        ∗ (((c : Thread nD τ).loc cc0_stg1_0) ↦{fullShare} (s1stg m c : Buf (Elt F) ((c : Thread nD τ).loc cc0_stg1_0)))
        ∗ (((c : Thread nD τ).loc cc0_stg2_0) ↦{fullShare} (s2stg m c : Buf (Elt F) ((c : Thread nD τ).loc cc0_stg2_0)))
        ∗ outPts c f₃
        ∗ ((bodyEnd m c ∗ owing c 0
            ∗ (((c : Thread nD τ).loc cc0_stg0_0) ↦{fullShare} (xstg m c : Buf (Elt F) ((c : Thread nD τ).loc cc0_stg0_0)))
            ∗ (((c : Thread nD τ).loc cc0_stg1_0) ↦{fullShare} (s1stg m c : Buf (Elt F) ((c : Thread nD τ).loc cc0_stg1_0)))
            ∗ (((c : Thread nD τ).loc cc0_stg2_0) ↦{fullShare} (s2stg m c : Buf (Elt F) ((c : Thread nD τ).loc cc0_stg2_0)))
            ∗ outPts c (outAt m c)) -∗ Kt ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _)
            (Memref.whole cc0_stg1_0) (Memref.isWhole_whole _) (Memref.whole cc0_stg2_0) (Memref.isWhole_whole _)
            (Memref.whole cc0_stg3_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) Kt := by
  rw [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [semSignalWord, semWaitWord, smemLoad, smemLoadElt, Prog.lift, Prog.bind_op, Prog.bind_ret, Prog.pure_eq_ret, wp_deviceId]
  unfold bodyRes
  rw [bigSep_fin8, bigSep_fin7, bigSep_fin7, bigSep_fin7]
  iintro ⟨#Hw, ⟨⟨Hf0, Hf1, Hf2, Hf3, Hf4, Hf5, Hf6, Hf7⟩, ⟨Hl0, Hl1, Hl2, Hl3, Hl4, Hl5, Hl6⟩, ⟨Hs0, Hs1, Hs2, Hs3, Hs4, Hs5, Hs6⟩,
    ⟨Hr0, Hr1, Hr2, Hr3, Hr4, Hr5, Hr6⟩, Hcb, #Hlev, Hab, ⟨%fg, Hg⟩, Htl, Hal, ⟨%ft, Hstage⟩⟩, HO, Hx, H1, H2, Hout, Hend⟩
  -- the weight fetches
  iapply (wp_fetch_res m K c 0 (wSlot_eq (off1_eq c 0)) (kSlot_eq rfl) (sem_w 0 rfl)) $$ Hw Hf0; iintro Hf0
  iapply (wp_fetch_res m K c 1 (wSlot_eq (off1_eq c 1)) (kSlot_eq rfl) (sem_w 1 rfl)) $$ Hw Hf1; iintro Hf1
  iapply (wp_fetch_res m K c 2 (wSlot_eq (off1_eq c 2)) (kSlot_eq rfl) (sem_w 2 rfl)) $$ Hw Hf2; iintro Hf2
  iapply (wp_fetch_res m K c 3 (wSlot_eq (off1_eq c 3)) (kSlot_eq rfl) (sem_w 3 rfl)) $$ Hw Hf3; iintro Hf3
  iapply (wp_fetch_res m K c 4 (wSlot_eq (off1_eq c 4)) (kSlot_eq rfl) (sem_w 4 rfl)) $$ Hw Hf4; iintro Hf4
  iapply (wp_fetch_res m K c 5 (wSlot_eq (off1_eq c 5)) (kSlot_eq rfl) (sem_w 5 rfl)) $$ Hw Hf5; iintro Hf5
  iapply (wp_fetch_res m K c 6 (wSlot_eq (off1_eq c 6)) (kSlot_eq rfl) (sem_w 6 rfl)) $$ Hw Hf6; iintro Hf6
  iapply (wp_fetch_res m K c 7 (wSlot_eq (off1_eq c 7)) (kSlot_eq rfl) (sem_w 7 rfl)) $$ Hw Hf7; iintro Hf7
  -- the barrier: the seven signals, each lending a page; the wait
  iapply (wp_lend_res m K c _ 0 7 6 rfl rfl (Fin.ext (k0_dev1_eq c))) $$ Hw Hl0 HO; iintro HO
  iapply (wp_lend_res m K c _ 1 6 5 rfl rfl (Fin.ext (k0_dev2_eq c))) $$ Hw Hl1 HO; iintro HO
  iapply (wp_lend_res m K c _ 2 5 4 rfl rfl (Fin.ext (k0_dev3_eq c))) $$ Hw Hl2 HO; iintro HO
  iapply (wp_lend_res m K c _ 3 4 3 rfl rfl (Fin.ext (k0_dev4_eq c))) $$ Hw Hl3 HO; iintro HO
  iapply (wp_lend_res m K c _ 4 3 2 rfl rfl (Fin.ext (k0_dev5_eq c))) $$ Hw Hl4 HO; iintro HO
  iapply (wp_lend_res m K c _ 5 2 1 rfl rfl (Fin.ext (k0_dev6_eq c))) $$ Hw Hl5 HO; iintro HO
  iapply (wp_lend_res m K c _ 6 1 0 rfl rfl (Fin.ext (k0_dev7_eq c))) $$ Hw Hl6 HO; iintro HO
  ihave HO := (Entails.of_eq (show owing (F := F) c (Obar c 0) = owing c (Osend c 7) from rfl)) $$ HO
  iapply (wp_barrier m K c) $$ [Hcb HO Hab]
  · iframe Hw Hcb HO Hlev Hab
  iintro ⟨HO, Hzb, Hlent⟩
  -- the stage is filled, and cut into its pages
  iapply (wp_load 𝒱₀ (c : Thread nD τ) none Set.univ (m := (Memref.whole cc0_stg0_0 : Memref sig .tc .vmem S4096x512 .f32)) (Finset.subset_univ _)) $$ Hx
  iintro Hx
  rw [show (Memref.whole cc0_stg0_0 : Memref sig .tc .vmem S4096x512 .f32).view.readAt (Elt F)
      (Rect.unit (s := S4096x512) ![0, 0] S4096x512.size inb_S4096x512_S4096x512_0_0).toLoadRect (xstg m c) = xstg m c
    from Memref.readAt_unit_zero (Elt F) cc0_stg0_0 zero2 _ _]
  iapply (wp_load 𝒱₀ (c : Thread nD τ) none Set.univ (m := tM) (Finset.subset_univ _)) $$ Hstage; iintro Hstage
  iapply (wp_store 𝒱₀ (c : Thread nD τ) none Set.univ (m := tM)
    (r := Rect.unit (s := S8x512x512) ![0, 0, 0] S8x512x512.size inb_S8x512x512_S8x512x512_0_0_0) (Mk := Finset.univ) (Finset.subset_univ _)) $$ Hstage
  iintro Hstage
  rw [show (tM.access (Rect.unit (s := S8x512x512) ![0, 0, 0] S8x512x512.size inb_S8x512x512_S8x512x512_0_0_0)).write (Elt F) ft
      (k0_pay2 (k0_pay1 (xstg m c))) Finset.univ = stFull m c
    from Memref.write_access_unit_zero_univ (Elt F) cc0_scratch0 zero3 _ _ _]
  ihave Hstage := (Entails.of_eq (stage_pages c (stFull m c))) $$ Hstage
  ihave Hlent := (Entails.of_eq ((others_fin c (barPay (F := F) c)).trans (bigSep_fin7 _))) $$ Hlent
  icases Hstage with ⟨Ht, Ht0, Ht1, Ht2, Ht3, Ht4, Ht5, Ht6⟩
  icases Hlent with ⟨Hb0, Hb1, Hb2, Hb3, Hb4, Hb5, Hb6⟩
  -- the seven sends
  ihave Hs0 := (sendRes_intro m c 0) $$ Hs0 Ht0 Hb0
  iapply (wp_page_res m K c _ 0 7 6 rfl rfl (Fin.ext (k0_dev8_eq c)) (tSlot_eq (off4_eq c 0)) (gSlot_eq (k0_off3_eq c)) (sem_s 0 rfl) (sem_r c (k0_off2_eq c))) $$ Hw Hs0 HO; iintro ⟨Hs0, HO⟩
  ihave Hs1 := (sendRes_intro m c 1) $$ Hs1 Ht1 Hb1
  iapply (wp_page_res m K c _ 1 6 5 rfl rfl (Fin.ext (k0_dev9_eq c)) (tSlot_eq (off4_eq c 1)) (gSlot_eq (k0_off3_eq c)) (sem_s 1 rfl) (sem_r c (k0_off2_eq c))) $$ Hw Hs1 HO; iintro ⟨Hs1, HO⟩
  ihave Hs2 := (sendRes_intro m c 2) $$ Hs2 Ht2 Hb2
  iapply (wp_page_res m K c _ 2 5 4 rfl rfl (Fin.ext (k0_dev10_eq c)) (tSlot_eq (off4_eq c 2)) (gSlot_eq (k0_off3_eq c)) (sem_s 2 rfl) (sem_r c (k0_off2_eq c))) $$ Hw Hs2 HO; iintro ⟨Hs2, HO⟩
  ihave Hs3 := (sendRes_intro m c 3) $$ Hs3 Ht3 Hb3
  iapply (wp_page_res m K c _ 3 4 3 rfl rfl (Fin.ext (k0_dev11_eq c)) (tSlot_eq (off4_eq c 3)) (gSlot_eq (k0_off3_eq c)) (sem_s 3 rfl) (sem_r c (k0_off2_eq c))) $$ Hw Hs3 HO; iintro ⟨Hs3, HO⟩
  ihave Hs4 := (sendRes_intro m c 4) $$ Hs4 Ht4 Hb4
  iapply (wp_page_res m K c _ 4 3 2 rfl rfl (Fin.ext (k0_dev12_eq c)) (tSlot_eq (off4_eq c 4)) (gSlot_eq (k0_off3_eq c)) (sem_s 4 rfl) (sem_r c (k0_off2_eq c))) $$ Hw Hs4 HO; iintro ⟨Hs4, HO⟩
  ihave Hs5 := (sendRes_intro m c 5) $$ Hs5 Ht5 Hb5
  iapply (wp_page_res m K c _ 5 2 1 rfl rfl (Fin.ext (k0_dev13_eq c)) (tSlot_eq (off4_eq c 5)) (gSlot_eq (k0_off3_eq c)) (sem_s 5 rfl) (sem_r c (k0_off2_eq c))) $$ Hw Hs5 HO; iintro ⟨Hs5, HO⟩
  ihave Hs6 := (sendRes_intro m c 6) $$ Hs6 Ht6 Hb6
  iapply (wp_page_res m K c _ 6 1 0 rfl rfl (Fin.ext (k0_dev14_eq c)) (tSlot_eq (off4_eq c 6)) (gSlot_eq (k0_off3_eq c)) (sem_s 6 rfl) (sem_r c (k0_off2_eq c))) $$ Hw Hs6 HO; iintro ⟨Hs6, HO⟩
  ihave HO := (Entails.of_eq (show owing (F := F) c (Osend c 0) = owing c 0 from rfl)) $$ HO
  -- the own page, copied and waited for; its product
  iapply (wp_local_res m K c (tSlot_eq (k0_off3_eq c)) (gSlot_eq (k0_off3_eq c)) sem_l fg) $$ Hw Ht Hg Htl Hal; iintro Hl
  iapply (wp_arrive_l m K c sem_l (credit_gSlot _ _)) $$ [Hl HO]
  · iframe Hw Hl HO
  iintro ⟨HO, Hl⟩
  iapply (wp_first m K c f₃ (sem_w 0 rfl) (credit_kSlot _ _) (k0_off5_eq c) rfl) $$ Hw Hl Hf0 HO Hout; iintro ⟨HO, Hl, Hf0, Hout⟩
  -- the seven rounds
  iapply (wp_round m K c 0 1 rfl 0 1 rfl rfl (sem_r _ (off6_eq c 0)) (credit_gSlot _ _) (sem_w 1 rfl) (credit_kSlot _ _) (off8_eq c 0) rfl (fun _ _ _ => rfl)) $$ Hw Hr0 Hf1 HO Hout
  iintro ⟨HO, Hr0, Hf1, Hout⟩
  iapply (wp_round m K c 1 2 rfl 1 2 rfl rfl (sem_r _ (off6_eq c 1)) (credit_gSlot _ _) (sem_w 2 rfl) (credit_kSlot _ _) (off8_eq c 1) rfl (fun _ _ _ => rfl)) $$ Hw Hr1 Hf2 HO Hout
  iintro ⟨HO, Hr1, Hf2, Hout⟩
  iapply (wp_round m K c 2 3 rfl 2 3 rfl rfl (sem_r _ (off6_eq c 2)) (credit_gSlot _ _) (sem_w 3 rfl) (credit_kSlot _ _) (off8_eq c 2) rfl (fun _ _ _ => rfl)) $$ Hw Hr2 Hf3 HO Hout
  iintro ⟨HO, Hr2, Hf3, Hout⟩
  iapply (wp_round m K c 3 4 rfl 3 4 rfl rfl (sem_r _ (off6_eq c 3)) (credit_gSlot _ _) (sem_w 4 rfl) (credit_kSlot _ _) (off8_eq c 3) rfl (fun _ _ _ => rfl)) $$ Hw Hr3 Hf4 HO Hout
  iintro ⟨HO, Hr3, Hf4, Hout⟩
  iapply (wp_round m K c 4 5 rfl 4 5 rfl rfl (sem_r _ (off6_eq c 4)) (credit_gSlot _ _) (sem_w 5 rfl) (credit_kSlot _ _) (off8_eq c 4) rfl (fun _ _ _ => rfl)) $$ Hw Hr4 Hf5 HO Hout
  iintro ⟨HO, Hr4, Hf5, Hout⟩
  iapply (wp_round m K c 5 6 rfl 5 6 rfl rfl (sem_r _ (off6_eq c 5)) (credit_gSlot _ _) (sem_w 6 rfl) (credit_kSlot _ _) (off8_eq c 5) rfl (fun _ _ _ => rfl)) $$ Hw Hr5 Hf6 HO Hout
  iintro ⟨HO, Hr5, Hf6, Hout⟩
  iapply (wp_round m K c 6 7 rfl 6 7 rfl rfl (sem_r _ (off6_eq c 6)) (credit_gSlot _ _) (sem_w 7 rfl) (credit_kSlot _ _) (off8_eq c 6) rfl (fun _ _ _ => rfl)) $$ Hw Hr6 Hf7 HO Hout
  iintro ⟨HO, Hr6, Hf7, Hout⟩
  -- the scaling
  iapply (wp_load_out c _) $$ Hout; iintro Hout
  iapply (wp_load 𝒱₀ (c : Thread nD τ) none Set.univ (m := (Memref.whole cc0_stg1_0 : Memref sig .tc .smem S1 .f32)) (Finset.subset_univ _)) $$ H1
  iintro H1
  rw [show (Memref.whole cc0_stg1_0 : Memref sig .tc .smem S1 .f32).view.readAt (Elt F)
      (Rect.unit (s := S1) ![0] S1.size inb_S1_S1_0).toLoadRect (s1stg m c) = s1stg m c
    from Memref.readAt_unit_zero (Elt F) cc0_stg1_0 zero1 _ _]
  iapply (wp_load 𝒱₀ (c : Thread nD τ) none Set.univ (m := (Memref.whole cc0_stg2_0 : Memref sig .tc .smem S1 .f32)) (Finset.subset_univ _)) $$ H2
  iintro H2
  rw [show (Memref.whole cc0_stg2_0 : Memref sig .tc .smem S1 .f32).view.readAt (Elt F)
      (Rect.unit (s := S1) ![0] S1.size inb_S1_S1_0).toLoadRect (s2stg m c) = s2stg m c
    from Memref.readAt_unit_zero (Elt F) cc0_stg2_0 zero1 _ _]
  iapply (wp_load_out c _) $$ Hout; iintro Hout
  iapply (wp_store_out c _ (outAt m c)) $$ Hout; iintro Hout
  -- the sends have left
  iapply (wp_arrive_s m K c 0 (sem_s 0 rfl) (credit_tSlot _ _)) $$ [Hs0 HO]
  · iframe Hw Hs0 HO
  iintro ⟨HO, Hs0⟩
  iapply (wp_arrive_s m K c 1 (sem_s 1 rfl) (credit_tSlot _ _)) $$ [Hs1 HO]
  · iframe Hw Hs1 HO
  iintro ⟨HO, Hs1⟩
  iapply (wp_arrive_s m K c 2 (sem_s 2 rfl) (credit_tSlot _ _)) $$ [Hs2 HO]
  · iframe Hw Hs2 HO
  iintro ⟨HO, Hs2⟩
  iapply (wp_arrive_s m K c 3 (sem_s 3 rfl) (credit_tSlot _ _)) $$ [Hs3 HO]
  · iframe Hw Hs3 HO
  iintro ⟨HO, Hs3⟩
  iapply (wp_arrive_s m K c 4 (sem_s 4 rfl) (credit_tSlot _ _)) $$ [Hs4 HO]
  · iframe Hw Hs4 HO
  iintro ⟨HO, Hs4⟩
  iapply (wp_arrive_s m K c 5 (sem_s 5 rfl) (credit_tSlot _ _)) $$ [Hs5 HO]
  · iframe Hw Hs5 HO
  iintro ⟨HO, Hs5⟩
  iapply (wp_arrive_s m K c 6 (sem_s 6 rfl) (credit_tSlot _ _)) $$ [Hs6 HO]
  · iframe Hw Hs6 HO
  iintro ⟨HO, Hs6⟩
  rw [wp_ret]; imodintro
  iapply Hend
  unfold bodyEnd
  rw [bigSep_fin8, bigSep_fin7, bigSep_fin7]
  iframe

end Cert.KernelIdeal.Exchange
-- ==== Proof.KernelIdeal.Arrange.lean ====
/-
What the body starts from, made of whole buffers and a device's ghost state; and what it leaves, made whole again.
-/
module

public import proofs.«01_k».proof.Proof.KernelIdeal.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the cells, by kind -/

/-- The cells a device's own transfers pay: the local one, the weight cells, the send cells. -/
def ownKinds : Fin 1 ⊕ (Fin 8 ⊕ Fin 7) ≃ Fin 16 :=
  (Equiv.sumCongr (Equiv.refl (Fin 1)) (finSumFinEquiv (m := 8) (n := 7))).trans (finSumFinEquiv (m := 1) (n := 15))
/-- All a device's transfer cells: those, and the receive cells. -/
def allKinds : Fin 16 ⊕ Fin 8 ≃ Fin 24 := finSumFinEquiv (m := 16) (n := 8)

/-- A family over the cells a device's own transfers pay, by kind. -/
theorem own_by_kind (Φ : Fin 24 → sProp 𝕄) : bigSep Finset.univ (fun k : Fin 16 => Φ (k.castLE (by decide)))
    = iprop(Φ kL ∗ bigSep Finset.univ (fun d : Fin 8 => Φ (kW d)) ∗ bigSep Finset.univ (fun j : Fin 7 => Φ (kS' j))) := by
  rw [bigSep_univ_equiv ownKinds, bigSep_univ_sum, bigSep_univ_sum,
    bigSep_congr (s := (Finset.univ : Finset (Fin 7))) (Ψ := fun j => Φ (kS' j))
      (fun j _ => congrArg Φ (Fin.ext (show 1 + (8 + j.val) = 9 + j.val by omega)))]
  rw [show bigSep (Finset.univ : Finset (Fin 1)) (fun a => Φ ((ownKinds (.inl a)).castLE (by decide))) = Φ kL from bigSep_singleton (i := (0 : Fin 1))]
  rfl

/-- A family over a device's 24 transfer cells, by kind. -/
theorem cells_by_kind (Φ : Fin 24 → sProp 𝕄) : bigSep Finset.univ Φ
    = iprop((Φ kL ∗ bigSep Finset.univ (fun d : Fin 8 => Φ (kW d)) ∗ bigSep Finset.univ (fun j : Fin 7 => Φ (kS' j)))
        ∗ bigSep Finset.univ (fun s : Fin 8 => Φ (kR s))) := by
  rw [← own_by_kind, bigSep_univ_equiv allKinds, bigSep_univ_sum]
  rfl

/-- A family over the devices other than `c`, by their distance going down. -/
theorem others_fin_bk (c : Dev nD) (Φ : Dev nD → sProp 𝕄) :
    bigSep (Finset.univ.erase c) Φ = bigSep Finset.univ (fun j : Fin 7 => Φ (bk c (j.val + 1))) := by
  rw [others_bk, bigSep_fin7]; rfl

/-- The devices, by their distance going down from `c`. -/
def down (c : Dev nD) : Fin 8 ≃ Dev nD where
  toFun d := bk c d.val
  invFun s := bk c s.val
  left_inv := by revert c; decide
  right_inv := by revert c; decide

/-! ## Whole buffers and their slots -/

theorem stage_whole (c : Dev nD) (f : Buf (Elt F) ((c : Thread nD τ).loc cc0_scratch0)) :
    (((c : Thread nD τ).loc cc0_scratch0) ↦{fullShare} f : sProp 𝕄)
      = iprop(tPts c c f ∗ bigSep Finset.univ (fun j : Fin 7 => tPts c (fw c (j.val + 1)) f)) := by
  rw [stage_pages, bigSep_fin7]
theorem gath_whole (c : Dev nD) (f : Buf (Elt F) ((c : Thread nD τ).loc cc0_scratch1)) :
    (((c : Thread nD τ).loc cc0_scratch1) ↦{fullShare} f : sProp 𝕄)
      = iprop(gPts c c f ∗ bigSep (Finset.univ.erase c) (fun s => gPts c s f)) := by
  rw [Ring.pointsTo_blocks (fun s : Fin 8 => (gS s).view.set) (fun a b h => gS_disj a b h) gS_cover f]
  exact slots_from c (fun s => gPts c s f)
theorem chunks_whole (c : Dev nD) (f : Buf (Elt F) ((c : Thread nD τ).loc cc0_scratch2)) :
    (((c : Thread nD τ).loc cc0_scratch2) ↦{fullShare} f : sProp 𝕄) = bigSep Finset.univ (fun d : Fin 8 => kPts c d f) := by
  rw [Ring.pointsTo_blocks (fun s : Fin 8 => (kS s).view.set) (fun a b h => kS_disj a b h) kS_cover f]
  rfl
theorem weights_whole (c : Dev nD) (f : Buf (Elt F) ((c : Thread nD τ).loc main_arg1)) :
    (((c : Thread nD τ).loc main_arg1) ↦{fullShare} f : sProp 𝕄) = bigSep Finset.univ (fun d : Fin 8 => wPts c (bk c d.val) f) := by
  rw [Ring.pointsTo_blocks (fun s : Fin 8 => (wS s).view.set) (fun a b h => wS_disj a b h) wS_cover f]
  exact bigSep_univ_equiv (down c) (fun s => wPts c s f)

/-- The four buffers a device's transfers work on, each whole; the weights at what the launch finds. -/
def buffers (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (((c : Thread nD τ).loc main_arg1) ↦{fullShare} wAt m c))

theorem fetchRes_intro (c : Dev nD) (d : Fin 8) (f : Buf (Elt F) ((c : Thread nD τ).loc cc0_scratch2)) :
    iprop(kPts c d f ∗ wPts c (bk c d.val) (wAt m c) ∗ dutyTok (ER (F := F)) (dcell c (kW d)) 0 0 ∗ atPos (ER (F := F)) (dcell c (kW d)) 0 ∅ 0)
      ⊢ fetchRes m c d := by
  unfold fetchRes
  iintro ⟨H1, H2, H3, H4⟩
  iframe H2 H3 H4
  iexists f; iexact H1
theorem lendRes_intro (c : Dev nD) (j : Fin 7) (f : Buf (Elt F) ((c : Thread nD τ).loc cc0_scratch1)) :
    iprop(gPts c (fw c (j.val + 1)) f ∗ dutyTok (ER (F := F)) (barCell (fw c (j.val + 1))) 0 c) ⊢ lendRes (F := F) c j := by
  unfold lendRes
  iintro ⟨H1, H2⟩
  iframe H2
  iexists f; iexact H1

/-- From its ghost state, its credits and its whole buffers, what device `c`'s body starts from; beside it, its place on
    the receive cell of its own number, which nobody pays. -/
theorem body_start (c : Dev nD) :
    iprop(own (F := F) c ∗ cred (tallyAt (barCell c) () 7)
        ∗ bigSep (Finset.univ.erase c) (fun s : Dev nD => cred (tallyAt (dcell c (kR s)) () N)) ∗ levAts L lv ∗ buffers m c)
      ⊢ iprop(bodyRes m c ∗ atPos (ER (F := F)) (dcell c (kR c)) 0 ∅ 0) := by
  unfold own buffers
  iintro ⟨⟨HaB, Hat, Htok, HtB, HtR⟩, HcB, HcR, Hlev, Hs0, ⟨%f1, Hs1⟩, ⟨%f2, Hs2⟩, Hw⟩
  ihave Hat := (Entails.of_eq (cells_by_kind (fun k => atPos (ER (F := F)) (dcell c k) 0 ∅ 0))) $$ Hat
  icases Hat with ⟨⟨HaL, HaW, HaS⟩, HaR⟩
  ihave HaR := (Entails.of_eq (slots_from c (fun s => atPos (ER (F := F)) (dcell c (kR s)) 0 ∅ 0))) $$ HaR
  icases HaR with ⟨HaO, HaR⟩
  ihave HaR := (Entails.of_eq (others_fin_bk c (fun s => atPos (ER (F := F)) (dcell c (kR s)) 0 ∅ 0))) $$ HaR
  ihave Htok := (Entails.of_eq (own_by_kind (fun k => dutyTok (ER (F := F)) (dcell c k) 0 0))) $$ Htok
  icases Htok with ⟨HtL, HtW, HtS⟩
  ihave HtB := (Entails.of_eq (others_fin c (fun p => dutyTok (ER (F := F)) (barCell p) 0 c))) $$ HtB
  ihave HtR := (Entails.of_eq (others_fin c (fun p => dutyTok (ER (F := F)) (dcell p (kR c)) 0 0))) $$ HtR
  ihave HcR := (Entails.of_eq (others_fin_bk c (fun s => cred (tallyAt (dcell c (kR s)) () N)))) $$ HcR
  ihave Hs1 := (Entails.of_eq (gath_whole c f1)) $$ Hs1
  icases Hs1 with ⟨Hg, Hgs⟩
  ihave Hgs := (Entails.of_eq (others_fin c (fun s => gPts c s f1))) $$ Hgs
  ihave Hk := (Entails.of_eq (chunks_whole c f2)) $$ Hs2
  ihave Hw := (Entails.of_eq (weights_whole c (wAt m c))) $$ Hw
  unfold bodyRes
  iframe HaO HcB Hlev HaB HtL HaL Hs0
  isplitl [Hk Hw HtW HaW]
  · iapply (show iprop((bigSep Finset.univ fun d : Fin 8 => kPts c d f2) ∗ (bigSep Finset.univ fun d : Fin 8 => wPts c (bk c d.val) (wAt m c))
        ∗ (bigSep Finset.univ fun d : Fin 8 => dutyTok (ER (F := F)) (dcell c (kW d)) 0 0)
        ∗ bigSep Finset.univ fun d : Fin 8 => atPos (ER (F := F)) (dcell c (kW d)) 0 ∅ 0) ⊢ bigSep Finset.univ (fetchRes m c) from by
      rw [← bigSep_sep', ← bigSep_sep', ← bigSep_sep']
      exact bigSep_mono fun d _ => fetchRes_intro m c d f2)
    iframe
  isplitl [Hgs HtB]
  · iapply (show iprop((bigSep Finset.univ fun j : Fin 7 => gPts c (fw c (j.val + 1)) f1)
        ∗ bigSep Finset.univ fun j : Fin 7 => dutyTok (ER (F := F)) (barCell (fw c (j.val + 1))) 0 c) ⊢ bigSep Finset.univ (lendRes (F := F) c) from by
      rw [← bigSep_sep']
      exact bigSep_mono fun j _ => lendRes_intro c j f1)
    iframe
  isplitl [HtS HtR HaS]
  · iapply (show iprop((bigSep Finset.univ fun j : Fin 7 => dutyTok (ER (F := F)) (dcell c (kS' j)) 0 0)
        ∗ (bigSep Finset.univ fun j : Fin 7 => dutyTok (ER (F := F)) (dcell (fw c (j.val + 1)) (kR c)) 0 0)
        ∗ bigSep Finset.univ fun j : Fin 7 => atPos (ER (F := F)) (dcell c (kS' j)) 0 ∅ 0) ⊢ bigSep Finset.univ (sendTok (F := F) c) from by
      rw [← bigSep_sep', ← bigSep_sep']; exact Entails.refl _)
    iframe
  isplitl [HcR HaR]
  · iapply (show iprop((bigSep Finset.univ fun j : Fin 7 => cred (tallyAt (dcell c (kR (bk c (j.val + 1)))) () N))
        ∗ bigSep Finset.univ fun j : Fin 7 => atPos (ER (F := F)) (dcell c (kR (bk c (j.val + 1)))) 0 ∅ 0)
        ⊢ bigSep Finset.univ (fun j : Fin 7 => pending (F := F) c (kR (bk c (j.val + 1))) N) from by
      rw [← bigSep_sep']; exact Entails.refl _)
    iframe
  iexists f1; iexact Hg

/-- After the body: the four buffers whole, the 25 semaphores at zero. -/
def ended (c : Dev nD) : sProp 𝕄 :=
  iprop(semVal (barCell c) 0 ∗ (bigSep Finset.univ fun k : Fin 24 => semVal (dcell c k) 0) ∗ buffers m c)

/-- From what the body leaves, with the never-paid receive cell at zero, the buffers whole and all semaphores at zero. -/
theorem body_ended (c : Dev nD) : iprop(bodyEnd m c ∗ semVal (dcell c (kR c)) 0) ⊢ ended m c := by
  unfold bodyEnd ended buffers
  iintro ⟨⟨HzB, HL, HW, HS, HR⟩, HzO⟩
  ihave HL := (Entails.of_eq (arrived_l m c)) $$ HL
  icases HL with ⟨HzL, Hg, Ht⟩
  ihave HW := (Entails.of_eq ((bigSep_congr fun d _ => arrived_w m c d).trans ((bigSep_sep' _ _ _).trans (congrArg _ (bigSep_sep' _ _ _))))) $$ HW
  icases HW with ⟨HzW, Hk, Hw⟩
  ihave HS := (Entails.of_eq ((bigSep_congr fun j _ => arrived_s m c j).trans (bigSep_sep' _ _ _))) $$ HS
  icases HS with ⟨HzS, Hts⟩
  ihave HR := (Entails.of_eq ((bigSep_congr fun j _ => arrived_r m c (bk c (j.val + 1))).trans (bigSep_sep' _ _ _))) $$ HR
  icases HR with ⟨HzR, Hgs⟩
  iframe HzB
  isplitl [HzL HzW HzS HzR HzO]
  · iapply (Entails.of_eq (cells_by_kind (fun k => semVal (dcell c k) 0)).symm)
    isplitl [HzL HzW HzS]; · iframe
    iapply (Entails.of_eq (slots_from c (fun s => semVal (dcell c (kR s)) 0)).symm)
    iframe HzO
    iapply (Entails.of_eq (others_fin_bk c (fun s => semVal (dcell c (kR s)) 0)).symm)
    iexact HzR
  isplitl [Ht Hts]
  · iexists (stFull m c)
    iapply (Entails.of_eq (stage_whole c (stFull m c)).symm)
    iframe
  isplitl [Hg Hgs]
  · iexists (gaFull m c)
    iapply (Entails.of_eq (gath_whole c (gaFull m c)).symm)
    iframe Hg
    iapply (Entails.of_eq (others_fin_bk c (fun s => gPts c s (gaFull m c))).symm)
    iexact Hgs
  isplitl [Hk]
  · iexists (chFull m c)
    iapply (Entails.of_eq (chunks_whole c (chFull m c)).symm)
    iexact Hk
  iapply (Entails.of_eq (weights_whole c (wAt m c)).symm)
  iexact Hw

end Cert.KernelIdeal.Exchange
-- ==== Proof.KernelIdeal.Launch.lean ====
/-
The launch: what each device's pipeline point starts and ends with, the exchange's ghost state dealt to the eight
devices, and the run of the whole program.
-/
module

public import proofs.«01_k».proof.Proof.KernelIdeal.Arrange
public import proofs.«01_k».proof.Proof.Gen.KernelIdeal.Points
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

/-- Before the point: the ghost state and the four buffers. -/
def Φ₀ (c : Dev nD) : sProp 𝕄 := iprop(start m c ∗ buffers m c)

/-- The pipeline's data: what the arrays hold at launch, what the staging buffers hold after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => s1stg m c
    | ⟨2, _⟩ => s2stg m c
    | ⟨3, _⟩ => outAt m c
  Φ t := match t with
    | ⟨0, _⟩ => Φ₀ m c
    | ⟨_ + 1, _⟩ => ended m c
  q _ := fullShare
  owed t := match t with
    | ⟨0, _⟩ => O₀ c
    | ⟨_ + 1, _⟩ => 0

/-- Owning a whole buffer at contents `X` is its points-to at them. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(ended m c ∗ (dats m ρ 0 c).owesAt () (t0_0 : Fin cfg0.N).succ
    ∗ stg c cc0_stg0_0 (xstg m c) ∗ stg c cc0_stg1_0 (s1stg m c) ∗ stg c cc0_stg2_0 (s2stg m c) ∗ stg c cc0_stg3_0 (outAt m c))

set_option maxRecDepth 4000 in
/-- The body takes the point's start to its end. -/
theorem sound_body (c : Dev nD) :
    bodyPre m ρ c
      ⊢ wp frame (wpE (defs₀ (F := F)) 𝒱₀ (c : Thread nD τ) none) Set.univ
          (cc0_body (Memref.whole cc0_stg0_0) (Memref.isWhole_whole _) (Memref.whole main_arg1) (Memref.isWhole_whole _)
            (Memref.whole cc0_stg1_0) (Memref.isWhole_whole _) (Memref.whole cc0_stg2_0) (Memref.isWhole_whole _)
            (Memref.whole cc0_stg3_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scratch6) (fun _ => bodyPost m ρ c) := by
  unfold bodyPre Φ₀ start
  iintro ⟨⟨⟨⟨%K, #Hw⟩, Hown, HcB, HcR, Hlev⟩, Hbuf⟩, Ho, ⟨%d0, %g0, %h0, Hx⟩, ⟨%d1, %g1, %h1, H1⟩, ⟨%d2, %g2, %h2, H2⟩, ⟨%d3, %g3, %h3, Hout⟩⟩
  have e0 : g0 = xstg m c := by rw [h0]; unfold Dat.before; rw [if_pos (fetch0_0 t0_0)]; rfl
  have e1 : g1 = s1stg m c := by rw [h1]; unfold Dat.before; rw [if_pos (fetch0_1 t0_0)]; rfl
  have e2 : g2 = s2stg m c := by rw [h2]; unfold Dat.before; rw [if_pos (fetch0_2 t0_0)]; rfl
  subst e0 e1 e2
  unfold Dat.owesAt Pipeline.owesWithin
  icases Ho with ⟨%W, %hW, HO⟩
  ihave Hres := (body_start m c) $$ [Hown HcB HcR Hlev Hbuf]
  · iframe
  icases Hres with ⟨Hres, HaO⟩
  imod (Rounds.cell_close ER (exRd m) (Set.mem_univ (K (c, (kR c).succ))) (fun h => h) (g := dcell c (kR c)) (R := 0)
    (fun r _ => by
      rcases Nat.eq_zero_or_pos r with h | h
      · rw [h]; exact duties_own m c
      · exact duties_later m _ r h)) $$ [HaO] with HzO
  · isplitr; · iapply (world_inv m K c (kR c)); iexact Hw
    iexact HaO
  iapply (run_body m K c (fun _ => bodyPost m ρ c) g3)
  iframe Hw Hres Hx H1 H2
  isplitl [HO]
  · unfold owing; iexists W; iexact HO
  isplitl [Hout]
  · unfold outPts; iexact Hout
  iintro ⟨Hend, HO, Hx, H1, H2, Hout⟩
  ihave Hend := (body_ended m c) $$ [Hend HzO]
  · iframe
  unfold bodyPost Dat.owesAt Pipeline.owesWithin
  iframe Hend
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [H1]
  · iexists _; isplitr; · (ipureintro; rfl)
    iexact H1
  isplitl [H2]
  · iexists _; isplitr; · (ipureintro; rfl)
    iexact H2
  iexists _; isplitr; · (ipureintro; rfl)
  unfold outPts; iexact Hout

set_option maxRecDepth 4000 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_buffer]
  exact sound_body m ρ c

/-! ## The ghost state at launch -/

abbrev osems : Fin 24 → SemLoc sig := fun k => .dma (osem k)

theorem ownSemFacts : Pipeline.OwnSemFacts cfg0.spec osems := by decide

theorem share_eq (c : Dev nD) (w : Fin cfg0.W) : (dats m ρ 0 c).share w = fullShare := by unfold Dat.share; split <;> rfl

theorem osem_inj {k k' : Fin 24} (h : (SemLoc.dma (osem k) : SemLoc sig) = .dma (osem k')) : k = k' := by
  have h' : osem k = osem k' := SemLoc.dma.inj h
  have h2 : 4 + k.val = 4 + k'.val := congrArg Fin.val h'
  exact Fin.ext (by omega)

theorem csem_injective : Function.Injective csem := by
  intro a b
  refine Fin.cases ?_ (fun i => ?_) a <;> refine Fin.cases ?_ (fun j => ?_) b
  · intro _; rfl
  · intro h; cases h
  · intro h; cases h
  · intro h; exact congrArg Fin.succ (osem_inj h)

theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every device's 25 cells, -/
def exCells : Finset (GSem nD τ sig) := Finset.univ.map ⟨kcell, kcell_injective⟩

/-- and their duty tokens: one for each transfer cell; for a barrier cell one for each device. -/
abbrev tokOf (x : Dev nD × (Fin 24 ⊕ Fin 8)) : GSem nD τ sig × ℕ × Dev nD := match x.2 with
  | .inl k => (dcell x.1 k, 0, 0)
  | .inr p => (barCell x.1, 0, p)
theorem tokOf_injective : Function.Injective tokOf := by
  rintro ⟨c, j⟩ ⟨c', j'⟩ h
  have h1 : c = c' := by
    have := congrArg (fun x : GSem nD τ sig × ℕ × Dev nD => x.1.1.1) h
    rcases j with k | p <;> rcases j' with k' | p' <;> exact this
  subst h1
  have h2 := congrArg (fun x : GSem nD τ sig × ℕ × Dev nD => (x.1.2, x.2.2)) h
  rcases j with k | p <;> rcases j' with k' | p'
  · rw [osem_inj (congrArg Prod.fst h2)]
  · cases congrArg Prod.fst h2
  · cases congrArg Prod.fst h2
  · have : p = p' := congrArg Prod.snd h2
    rw [this]
def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The tokens of device `c`'s own cells, as minted. -/
def minted (c : Dev nD) : sProp 𝕄 :=
  iprop(bigSep Finset.univ (fun k : Fin 24 => dutyTok (ER (F := F)) (dcell c k) 0 0)
    ∗ bigSep Finset.univ (fun p : Dev nD => dutyTok (ER (F := F)) (barCell c) 0 p))

/-- What the launch deals device `c`. -/
def G (c : Dev nD) : sProp 𝕄 :=
  iprop((bigSep Finset.univ fun k : Fin 25 => roundState ER (exRd m) (kcell (c, k)) 0)
    ∗ (bigSep Finset.univ fun k : Fin 25 => iprop(atPos (ER (F := F)) (kcell (c, k)) 0 ∅ 0 ∗ reached (ER (F := F)) (kcell (c, k)) 0)) ∗ minted c)

/-- What the devices' common step makes of it. -/
def G' (c : Dev nD) : sProp 𝕄 := iprop((∃ K, world m K) ∗ own (F := F) c)

theorem fund_exchange : BI.own ((ER (F := F)) (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 25 => Φ (kcell (c, k)) := by
    unfold exCells; rw [bigSep_map, bigSep_univ_prod]; rfl
  have hT : bigSep exToks (fun x => (dutyTok (ER (F := F)) x.1 x.2.1 x.2.2 : sProp 𝕄)) = bigSep Finset.univ fun c : Dev nD => minted c := by
    unfold exToks; rw [bigSep_map, bigSep_univ_prod]
    exact bigSep_congr fun c _ => by unfold minted; rw [bigSep_univ_sum]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G; simp only [bigSep_sep']
  iframe

/-- A family over a device's 25 cells: the barrier cell, the transfer cells. -/
theorem cells_split (c : Dev nD) (Φ : GSem nD τ sig → sProp 𝕄) : bigSep Finset.univ (fun k : Fin 25 => Φ (kcell (c, k)))
    = iprop(Φ (barCell c) ∗ bigSep Finset.univ (fun k : Fin 24 => Φ (dcell c k))) := by
  rw [bigSep_univ_equiv (finSumFinEquiv (m := 1) (n := 24)), bigSep_univ_sum,
    bigSep_congr (s := (Finset.univ : Finset (Fin 24))) (Ψ := fun k => Φ (dcell c k))
      (fun k _ => congrArg (fun x => Φ (kcell (c, x))) (Fin.ext (show 1 + k.val = k.val + 1 by omega) : finSumFinEquiv (.inr k) = k.succ))]
  rw [show bigSep (Finset.univ : Finset (Fin 1)) (fun a => Φ (kcell (c, finSumFinEquiv (m := 1) (n := 24) (.inl a)))) = Φ (barCell c) from bigSep_singleton (i := (0 : Fin 1))]
  rfl

theorem ownSems0_eq (c : Dev nD) : (Pipeline.ownSems0 (Ix := Unit) (Name := ℕ) (U := UU) (Lvl := ℕ) (Val := Elt F) (τ := τ) osems c : sProp 𝕄)
    = bigSep Finset.univ (fun k : Fin 24 => semVal (dcell c k) 0) := by
  unfold Pipeline.ownSems0; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osems c ∗ unscopedSems0 c)
      ⊢ (bigSep Finset.univ fun k : Fin 25 => semVal (kcell (c, k)) 0 : sProp 𝕄) := by
  rw [ownSems0_eq, unscopedSems0_eq, cells_split c (fun g => semVal g 0)]
  iintro ⟨H1, H2⟩
  iframe

theorem core_alloc (c : Dev nD) :
    iprop(Pipeline.ownSems0 (Ix := Unit) (Name := ℕ) (U := UU) (Lvl := ℕ) (Val := Elt F) (τ := τ) osems c ∗ unscopedSems0 c ∗ G m c)
      ⊢ |={Set.univ}=> iprop((bigSep Finset.univ fun k => iprop(∃ κ : ℕ, cellInv ER (exRd m) κ (kcell (c, k))))
          ∗ (bigSep Finset.univ fun k => iprop(atPos (ER (F := F)) (kcell (c, k)) 0 ∅ 0 ∗ reached (ER (F := F)) (kcell (c, k)) 0)) ∗ minted c) := by
  unfold G
  iintro ⟨Hos, Hus, Hst, Hat, Htok⟩
  ihave Hv := (sems0_eq (F := F) c) $$ [Hos Hus]
  · iframe
  imod (show iprop((bigSep Finset.univ fun k : Fin 25 => semVal (kcell (c, k)) 0) ∗ bigSep Finset.univ fun k : Fin 25 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · iframe
  imodintro
  iframe

/-- The tokens each device pays with, of its own cells and of the others'. -/
def payToks (c : Dev nD) : sProp 𝕄 :=
  iprop(bigSep Finset.univ (fun k : Fin 16 => dutyTok (ER (F := F)) (dcell c (k.castLE (by decide))) 0 0)
    ∗ bigSep (Finset.univ.erase c) (fun p : Dev nD => dutyTok (ER (F := F)) (barCell p) 0 c)
    ∗ bigSep (Finset.univ.erase c) (fun p : Dev nD => dutyTok (ER (F := F)) (dcell p (kR c)) 0 0))

theorem minted_eq (c : Dev nD) : minted (F := F) c
    = iprop((bigSep Finset.univ (fun k : Fin 16 => dutyTok (ER (F := F)) (dcell c (k.castLE (by decide))) 0 0)
        ∗ bigSep Finset.univ (fun s : Fin 8 => dutyTok (ER (F := F)) (dcell c (kR s)) 0 0))
      ∗ bigSep Finset.univ (fun p : Dev nD => dutyTok (ER (F := F)) (barCell c) 0 p)) := by
  unfold minted
  rw [cells_by_kind (fun k => dutyTok (ER (F := F)) (dcell c k) 0 0), ← own_by_kind (fun k => dutyTok (ER (F := F)) (dcell c k) 0 0)]

theorem others_of_all (Φ : Dev nD → Dev nD → sProp 𝕄) :
    (bigSep Finset.univ fun c : Dev nD => bigSep Finset.univ fun s : Dev nD => Φ c s)
      ⊢ bigSep Finset.univ fun s : Dev nD => bigSep (Finset.univ.erase s) fun c : Dev nD => Φ c s := by
  rw [bigSep_univ_comm]
  exact bigSep_mono fun s _ => bigSep_subset (Finset.erase_subset _ _)

/-- The tokens dealt: device `c`'s barrier and receive tokens of number `s` go to device `s`. -/
theorem toks_dealt : (bigSep Finset.univ fun c : Dev nD => (minted c : sProp 𝕄)) ⊢ bigSep Finset.univ fun c : Dev nD => payToks c := by
  rw [bigSep_congr (s := (Finset.univ : Finset (Dev nD))) (fun c _ => minted_eq (F := F) c)]
  unfold payToks
  rw [bigSep_sep', bigSep_sep', bigSep_sep', bigSep_sep']
  iintro ⟨⟨H1, H2⟩, H3⟩
  ihave H2 := (others_of_all (fun c s => dutyTok (ER (F := F)) (dcell c (kR s)) 0 0)) $$ H2
  ihave H3 := (others_of_all (fun c s => dutyTok (ER (F := F)) (barCell c) 0 s)) $$ H3
  iframe

theorem ghost_intro (K : Dev nD × Fin 25 → ℕ) (c : Dev nD) :
    iprop(world m K ∗ ((bigSep Finset.univ fun k : Fin 25 => atPos (ER (F := F)) (kcell (c, k)) 0 ∅ 0) ∗ payToks c)) ⊢ G' m c := by
  unfold G' own payToks
  rw [cells_split c (fun g => atPos (ER (F := F)) g 0 ∅ 0)]
  iintro ⟨Hw, ⟨HaB, Hat⟩, H1, H2, H3⟩
  isplitl [Hw]; · iexists K; iexact Hw
  iframe

theorem regroup :
    (bigSep Finset.univ fun c : Dev nD => iprop((bigSep Finset.univ fun k => iprop(∃ κ : ℕ, cellInv ER (exRd m) κ (kcell (c, k))))
          ∗ (bigSep Finset.univ fun k => iprop(atPos (ER (F := F)) (kcell (c, k)) 0 ∅ 0 ∗ reached (ER (F := F)) (kcell (c, k)) 0)) ∗ minted c) : sProp 𝕄)
      ⊢ bigSep Finset.univ (G' m) := by
  rw [bigSep_sep', bigSep_sep', ← bigSep_univ_prod (fun ck : Dev nD × Fin 25 => iprop(∃ κ : ℕ, cellInv ER (exRd m) κ (kcell ck))),
    bigSep_congr (s := Finset.univ) (fun (c : Dev nD) _ => bigSep_sep' Finset.univ (fun k : Fin 25 => (atPos (ER (F := F)) (kcell (c, k)) 0 ∅ 0 : sProp 𝕄)) (fun k => reached (ER (F := F)) (kcell (c, k)) 0)),
    bigSep_sep', ← bigSep_univ_prod (fun ck : Dev nD × Fin 25 => (reached (ER (F := F)) (kcell ck) 0 : sProp 𝕄))]
  iintro ⟨HI, ⟨Hat, #HR⟩, Htok⟩
  ihave HK := (BI.bigSep_exists_pi Finset.univ (fun (ck : Dev nD × Fin 25) (κ : ℕ) => (cellInv ER (exRd m) κ (kcell ck) : sProp 𝕄))) $$ HI
  icases HK with ⟨%K, #HI⟩
  ihave Htk := (toks_dealt (F := F)) $$ Htok
  iapply (bigSep_with_persistent (R := world m K) fun c _ => ghost_intro m K c)
  isplitr
  · unfold world; isplitl; · iexact HI
    iexact HR
  · iapply (Entails.of_eq (bigSep_sep' Finset.univ (fun c : Dev nD => bigSep Finset.univ fun k : Fin 25 => (atPos (ER (F := F)) (kcell (c, k)) 0 ∅ 0 : sProp 𝕄)) payToks).symm)
    iframe

/-- All devices' semaphores and ghost state at once: the invariants allocated, the tokens dealt. -/
theorem glob : (bigSep Finset.univ fun c => iprop(Pipeline.ownSems0 (Ix := Unit) (Name := ℕ) (U := UU) (Lvl := ℕ) (Val := Elt F) (τ := τ) osems c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b s t : Dev nD} : Iff (dcell a (kR s) = dcell b (kR t)) (a = b ∧ s = t) :=
  ⟨fun h => ⟨congrArg (fun g : GSem nD τ sig => g.1.1) h, Fin.ext (by
      have h2 : 16 + s.val = 16 + t.val := congrArg Fin.val (osem_inj (congrArg Prod.snd h))
      omega)⟩, fun h => by rw [h.1, h.2]⟩
theorem recv_ne_bar {a b s : Dev nD} : dcell a (kR s) ≠ barCell b := fun h => by cases congrArg Prod.snd h

theorem tally_bar (a c : Dev nD) : (tallyAt (barCell a) () 1 : CellTallies nD τ sig Unit) (barCell c) () = if a = c then 1 else 0 := by
  rw [tallyAt_apply]
  exact if_congr (by rw [eq_comm, bar_eq_iff]; exact and_iff_left rfl) rfl rfl
theorem tally_recv (a s c t : Dev nD) :
    (tallyAt (dcell a (kR s)) () N : CellTallies nD τ sig Unit) (dcell c (kR t)) () = (if a = c ∧ s = t then 1 else 0) * N := by
  rw [tallyAt_apply, ite_mul, one_mul, zero_mul]
  exact if_congr (by rw [eq_comm, recv_eq_iff]; exact and_iff_left rfl) rfl rfl

/-- What device `d` owes device `c`'s barrier cell, -/
theorem owed_bar (d c : Dev nD) : O₀ d (barCell c) () = ∑ j : Fin 7, if fw d (7 - j.val) = c then 1 else 0 := by
  have hs (n : ℕ) : Osend d n (barCell c) () = 0 := by
    by_contra h
    obtain ⟨p, hp⟩ := Osend_pos n (Nat.pos_of_ne_zero h)
    exact recv_ne_bar hp.symm
  have hb (n : ℕ) : Obar d n (barCell c) () = ∑ j : Fin n, if fw d (7 - j.val) = c then 1 else 0 := by
    induction n with
    | zero => exact hs 7
    | succ n ih =>
      rw [Fin.sum_univ_castSucc]
      show Obar d n (barCell c) () + tallyAt (barCell (fw d (7 - n))) () 1 (barCell c) () = _
      rw [ih, tally_bar]; rfl
  exact hb 7

/-- and its receive cell `s`. -/
theorem owed_recv (d c s : Dev nD) : O₀ d (dcell c (kR s)) () = (∑ j : Fin 7, if fw d (7 - j.val) = c ∧ d = s then 1 else 0) * N := by
  have hs (n : ℕ) : Osend d n (dcell c (kR s)) () = (∑ j : Fin n, if fw d (7 - j.val) = c ∧ d = s then 1 else 0) * N := by
    induction n with
    | zero => rw [Fin.sum_univ_zero, zero_mul]; rfl
    | succ n ih =>
      rw [Fin.sum_univ_castSucc]
      show Osend d n (dcell c (kR s)) () + tallyAt (dcell (fw d (7 - n)) (kR d)) () N (dcell c (kR s)) () = _
      rw [ih, tally_recv, add_mul]; rfl
  have hb (n : ℕ) : Obar d n (dcell c (kR s)) () = Osend d 7 (dcell c (kR s)) () := by
    induction n with
    | zero => rfl
    | succ n ih =>
      show Obar d n (dcell c (kR s)) () + tallyAt (barCell (fw d (7 - n))) () 1 (dcell c (kR s)) () = _
      rw [ih, tallyAt_ne_cell recv_ne_bar, Finsupp.zero_apply, Nat.add_zero]
  exact (hb 7).trans (hs 7)

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c s : Dev nD) (h : s ≠ c) :
    tallyOn (dcell c (kR s)) (launchCredit (Pipeline.owing O₀) 0 (dcell c (kR s))) = (tallyAt (dcell c (kR s)) () N : CellTallies nD τ sig Unit) := by
  have e : (∑ d : Dev nD, ∑ j : Fin 7, if fw d (7 - j.val) = c ∧ d = s then 1 else 0) = 1 := by revert c s; decide
  unfold tallyAt; refine congrArg _ (Finsupp.ext fun u => ?_); cases u
  rw [Pipeline.launchCredit_owing, Finsupp.single_eq_same, Finset.sum_congr rfl fun d _ => owed_recv d c s, ← Finset.sum_mul, e, one_mul]

/-- Device `c`'s launch credit: its barrier's seven units, and a page's on the receive cell of each other device. -/
theorem creds (c : Dev nD) :
    (Pipeline.launchCred O₀ c : sProp 𝕄) ⊢ iprop(cred (tallyAt (barCell c) () 7)
      ∗ bigSep (Finset.univ.erase c) (fun s : Dev nD => cred (tallyAt (dcell c (kR s)) () N))) := by
  unfold Pipeline.launchCred
  rw [bigSep_univ_at _ (SemLoc.reg barS), launch_bar]
  refine sep_mono_right ?_
  refine (bigSep_subset (t := (Finset.univ.erase c).map ⟨fun s : Dev nD => (.dma (osem (kR s)) : SemLoc sig), fun s t h =>
    Fin.ext (by have h2 : 16 + s.val = 16 + t.val := congrArg Fin.val (osem_inj h); omega)⟩) fun x hx => ?_).trans ?_
  · obtain ⟨s, -, rfl⟩ := Finset.mem_map.mp hx
    exact Finset.mem_erase.mpr ⟨fun h => (by cases h), Finset.mem_univ _⟩
  · rw [bigSep_map]
    exact bigSep_mono fun s hs => Entails.of_eq (congrArg cred (launch_recv c s (Finset.ne_of_mem_erase hs)))

/-! ## The launch theorem's conditions -/

/-- The weights, at what the launch finds. -/
def weights (c : Dev nD) : sProp 𝕄 := (((c : Thread nD τ).loc main_arg1) ↦{fullShare} wAt m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ weights m c) ∗ emp) := by
  rw [Pipeline.unscopedRestP_none, unscopedRest0_eq]
  iintro ⟨Hw, Hlev, Hcr, -, HG⟩
  ihave Hc := (creds (F := F) c) $$ Hcr
  icases Hc with ⟨H1, HN⟩
  imodintro
  unfold start G' weights
  icases HG with ⟨HW, Hown⟩
  isplitl
  · isplitr [Hw]
    · iframe
    · iexact Hw
  · iempintro

theorem phi0_intro (c : Dev nD) :
    iprop((start m c ∗ weights m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ buffers weights
  iintro ⟨⟨Hs, Hw⟩, -, H0, H1, H2⟩
  iframe

theorem phi1_exit (c : Dev nD) :
    (dats m ρ 0 c).Φ (Fin.last cfg0.N) ⊢ iprop((unscopedSems0 c ∗ weights m c) ∗ Pipeline.ownSems0 osems c ∗ Pipeline.scopedRest cfg0.spec c) := by
  rw [show (dats m ρ 0 c).Φ (Fin.last cfg0.N) = ended m c from rfl, scopedRest0_eq, ownSems0_eq, unscopedSems0_eq]
  unfold ended buffers weights
  iintro ⟨HzB, Hz, H0, H1, H2, Hw⟩
  iframe

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- After the run every windowed array is at its final contents, and the weights are what they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = wAt m c

set_option maxRecDepth 8000 in
/-- On the mesh of eight devices, from any memory with zero counters, every weakly fair execution of the program
    terminates; every final state has the arrays at the contents `QC` names and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := fun c => iprop(start m c ∗ weights m c)) (Y := fun c => iprop(unscopedSems0 c ∗ weights m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wAt m c)
    (hY := fun c s' => by
      iintro ⟨⟨Hu, Hw⟩, -, HSI⟩
      imod (Pipeline.unscopedSems0_read (X := unscopedSems0 c) (c := c) fupd_intro s') $$ [Hu HSI] with ⟨%h1, HSI⟩
      · isplitl [Hu] <;> iassumption
      ihave H := (pointsTo_read_all {()} (fun _ : Unit => ((c : Thread nD τ).loc main_arg1)) (fun _ => wAt m c) s') $$ [Hw HSI]
      · isplitl [Hw]
        · iapply (Entails.of_eq (bigSep_singleton (i := ()) (Φ := fun _ : Unit => weights m c)).symm); iexact Hw
        · iexact HSI
      icases H with ⟨%h2, HSI⟩
      imodintro
      isplitr; · ipureintro; exact ⟨h1, h2 () (Finset.mem_singleton_self _)⟩
      iexact HSI)
    (hQ := fun _ h hs => ⟨fun c => ⟨fun w => (h c).1 w, (h c).2.2.2⟩, sem_eq_zero hs fun c => (h c).2.2.1⟩)

end Cert.KernelIdeal.Exchange
-- ==== Proof.KernelIdeal.Final.lean ====
/-
The run read at the program's arrays: every argument unchanged, every device's result at `outAt`.
-/
module

public import proofs.«01_k».proof.Proof.KernelIdeal.Launch
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem win3_offset : (fun a => win0_3.index t0_0 a * main_v1.ty.shape.size a) = fun _ => 0 :=
  funext fun a => by fin_cases a <;> decide +kernel

/-- The one write-back writes the whole output block. -/
theorem flushed_out (c : Dev nD) (t : Fin cfg0.N) :
    (dats m ρ 0 c).flushed 3 t = ((cfg0.win 3).blk t).view.read (Elt F) (outAt m c) := by
  obtain rfl := fin_N0 t
  exact (Memref.read_access_unit_zero (Elt F) main_v1 win3_offset (fun a => by rw [congrFun win3_offset a]; simp) (outAt m c)).symm

theorem covered_out (i : S512x2048.Idx) : ∃ t : Fin cfg0.N, (cfg0.win 3).flush t = true ∧ i ∈ ((cfg0.win 3).blk t).view.set := by
  refine ⟨t0_0, flush0_3 _, ?_⟩
  show i ∈ ((View.whole main_v1).slice (win0_3.rect t0_0)).set
  rw [View.set_slice_whole, Rect.mem_set_unit]
  have e : ∀ a, win0_3.index t0_0 a * win0_3.size a = 0 ∧ win0_3.xsize (grid0.coords t0_0) a = S512x2048.size a := by decide +kernel
  intro a
  show win0_3.index t0_0 a * win0_3.size a ≤ (i a : ℕ) ∧ (i a : ℕ) < win0_3.index t0_0 a * win0_3.size a + win0_3.xsize (grid0.coords t0_0) a
  rw [(e a).1, (e a).2, Nat.zero_add]
  exact ⟨Nat.zero_le _, (i a).isLt⟩

/-- The result array after the run, -/
theorem final_out (c : Dev nD) : finalA m ρ c 3 = outAt m c :=
  (dats m ρ 0 c).arrAt_eq_of_cover 3 (outAt m c) (fun t _ => flushed_out m ρ c t) covered_out

/-- From any memory with zero counters the program runs; at the end device `c`'s result is `outAt m c`, its arguments
    are unchanged, and every semaphore counter is zero. -/
theorem run_values : θ_run defs (onTc (τ := τ) (main (F := F))) (s₀ m ρ) (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨((h.1 c).1 3).trans (final_out m ρ c),
      ((h.1 c).1 0).trans ((dats m ρ 0 c).arrAt_in 0 rfl _), (h.1 c).2,
      ((h.1 c).1 1).trans ((dats m ρ 0 c).arrAt_in 1 rfl _), ((h.1 c).1 2).trans ((dats m ρ 0 c).arrAt_in 2 rfl _)⟩, h.2⟩)
    (run_main m ρ)

end Cert.KernelIdeal.Exchange
-- ==== Proof.Value.lean ====
/-
The kernel's result over the extended reals: device `c`'s block is the row block `c` of the whole product, scaled.
-/
module

public import proofs.«01_k».proof.Defs
public import proofs.«01_k».proof.Proof.KernelIdeal.Final
public import proofs.«01_k».proof.Proof.Gen.ReferenceIdeal.Run
public import Idealize.ShloMosaic.Lib.Pipeline.Value
public import Idealize.ShloMosaic.Lib.Pipeline.ValueKit
public import Idealize.ShloMosaic.Lib.MatmulPlain
public import Idealize.ShloMosaic.Lib.StackMember

@[expose] public section

noncomputable section

namespace Cert.KernelIdeal.Exchange

open Cert.KernelIdeal Cert.KernelIdeal.Gen

open Idealize.ShloMosaic hiding ix1 ix2 ix3 eq_ix2
open Idealize.ShloMosaic.TcCoe
open Idealize.ShloMosaic.ValueIdx
open Idealize.SL Idealize.SL.Sem

variable (m : (ℓ : Loc nD τ sig) → Buf (Elt Ideal) ℓ)

/-! ## The staged inputs are the arguments -/

theorem xstg_eq (c : Dev nD) : xstg m c = m ((c : Thread nD τ).loc main_arg0) := by
  have e : (fun a => win0_0.index t0_0 a * main_arg0.ty.shape.size a) = fun _ => 0 := funext fun a => by fin_cases a <;> decide +kernel
  exact Memref.read_access_unit_zero (Elt Ideal) main_arg0 e (fun a => by rw [congrFun e a]; simp) _
theorem s1stg_eq (c : Dev nD) : s1stg m c = m ((c : Thread nD τ).loc main_arg2) := by
  have e : (fun a => win0_1.index t0_0 a * main_arg2.ty.shape.size a) = fun _ => 0 := funext fun a => by fin_cases a; decide +kernel
  exact Memref.read_access_unit_zero (Elt Ideal) main_arg2 e (fun a => by rw [congrFun e a]; simp) _
theorem s2stg_eq (c : Dev nD) : s2stg m c = m ((c : Thread nD τ).loc main_arg3) := by
  have e : (fun a => win0_2.index t0_0 a * main_arg3.ty.shape.size a) = fun _ => 0 := funext fun a => by fin_cases a; decide +kernel
  exact Memref.read_access_unit_zero (Elt Ideal) main_arg3 e (fun a => by rw [congrFun e a]; simp) _

/-! ## The pages and the chunks, by row and column -/

/-- Page `s` of the stage is rows `512 s …` of the device's block of `x`: narrowing changes no extended real. -/
theorem stFull_apply (c : Dev nD) (s : Fin 8) (a b : Fin 512) :
    (stFull m c : S8x512x512.Idx → EReal) (ix3 s a b) = (m ((c : Thread nD τ).loc main_arg0) : S4096x512.Idx → EReal) (ix2 (rowIn s a) b) := by
  have key (x : S4096x512.Idx → EReal) (h : S4096x512.ShapeCasts S4096x512) (h' : S4096x512.ShapeCasts S8x512x512) :
      shapeCast S8x512x512 (shapeCast S4096x512 x h) h' (ix3 s a b) = x (ix2 (rowIn s a) b) := by
    rw [shapeCast_self]
    refine shapeCast_apply _ _ _ _ ?_
    rw [Shape.rowMajor_val_three, Shape.rowMajor_val_two]
    show (512 * s.val + a.val) * 512 + b.val = (s.val * 512 + a.val) * 512 + b.val
    omega
  have cast (x : Vec Ideal S4096x512 .f32) : (k0_pay2 (k0_pay1 x) : S8x512x512.Idx → EReal) (ix3 s a b) = (x : S4096x512.Idx → EReal) (ix2 (rowIn s a) b) := by
    unfold k0_pay2 k0_pay1
    rw [shapeCast_self]
    exact key x _ _
  unfold stFull
  rw [xstg_eq]
  exact cast _

theorem pageOf_apply (f : (cc0_scratch1 : Ref sig .tc).ty.Contents (Elt Ideal)) (s : Fin 8) (a b : Fin 512) :
    pageOf f s (ix3 (0 : Fin 1) a b) = (f : S8x512x512.Idx → EReal) (ix3 s a b) := by
  unfold pageOf
  refine congrArg (f : S8x512x512.Idx → EReal) (funext fun i => ?_)
  match i with
  | 0 => exact Fin.ext (show s.val + 1 * 0 = s.val by omega)
  | 1 => exact Fin.ext (show 0 + 1 * a.val = a.val by omega)
  | 2 => exact Fin.ext (show 0 + 1 * b.val = b.val by omega)
theorem chunkOf_apply (f : (cc0_scratch2 : Ref sig .tc).ty.Contents (Elt Ideal)) (d : Fin 8) (a : Fin 512) (b : Fin 2048) :
    chunkOf f d (ix3 (0 : Fin 1) a b) = (f : S8x512x2048.Idx → EReal) (ix3 d a b) := by
  unfold chunkOf
  refine congrArg (f : S8x512x2048.Idx → EReal) (funext fun i => ?_)
  match i with
  | 0 => exact Fin.ext (show d.val + 1 * 0 = d.val by omega)
  | 1 => exact Fin.ext (show 0 + 1 * a.val = a.val by omega)
  | 2 => exact Fin.ext (show 0 + 1 * b.val = b.val by omega)

/-- A page times a chunk: one product of the sum, at row `a` and column `b`. -/
theorem product_apply (p : Vec Ideal S1x512x512 .fp8e4m3) (w : Vec Ideal S1x512x2048 .f32) (a : Fin 512) (b : Fin 2048) :
    (k0_pay3 p w : S512x2048.Idx → EReal) (ix2 a b)
      = ∑ j : Fin 512, (p : S1x512x512.Idx → EReal) (ix3 (0 : Fin 1) a j) * (w : S1x512x2048.Idx → EReal) (ix3 (0 : Fin 1) j b) := by
  unfold k0_pay3
  refine (Ideal.matmul_plain_apply (M := 512) (K := 512) (N := 2048) none _ _ _ a b).trans ?_
  rw [show (constant (F := Ideal) S512x2048 .f32 0x00000000#32 : FVec Ideal S512x2048 .f32) (ix2 a b) = 0 from Ideal.ofBits_zero_f32, zero_add]
  refine Finset.sum_congr rfl fun j _ => congrArg₂ (· * ·) ?_ ?_
  · exact congrArg (p : S1x512x512.Idx → EReal) (reshapeEquiv_ix2_1ab _ a j)
  · exact congrArg (w : S1x512x2048.Idx → EReal) (reshapeEquiv_ix2_1ab _ j b)

/-- A later step adds its product to what is there. -/
theorem step_eq (o : Vec Ideal S512x2048 .f32) (p : Vec Ideal S1x512x512 .fp8e4m3) (w : Vec Ideal S1x512x2048 .f32) (i : S512x2048.Idx) :
    (k0_pay4 o p w : S512x2048.Idx → EReal) i = (o : S512x2048.Idx → EReal) i + (k0_pay3 p w : S512x2048.Idx → EReal) i := by
  unfold k0_pay4 k0_pay3
  rw [shapeCast_self]
  rfl

/-! ## The sum over the eight devices -/

section Whole

variable (X : (⟨2, ![4096, 4096]⟩ : Shape).Idx → EReal) (W : (⟨2, ![4096, 2048]⟩ : Shape).Idx → EReal)
  (hX : ∀ c : Dev nD, m ((c : Thread nD τ).loc main_arg0) = Layout.block ⟨2, ![4096, 512]⟩ ⟨2, ![4096, 4096]⟩ 1 8 c X tiles_x)
  (hW : ∀ c : Dev nD, m ((c : Thread nD τ).loc main_arg1) = W)

/-- The part of row `r` and column `b` of the product that device `s`'s columns of `x` give. -/
def part (r : Fin 4096) (b : Fin 2048) (s : Fin 8) : EReal := ∑ j : Fin 512, X (ix2 r (rowIn s j)) * W (ix2 (rowIn s j) b)

include hX hW

theorem page_chunk (c s : Dev nD) (d : Fin 8) (h : s = bk c d.val) (a : Fin 512) (b : Fin 2048) :
    (k0_pay3 (pageOf (gaFull m c) s) (chunkOf (chFull m c) d) : S512x2048.Idx → EReal) (ix2 a b) = part X W (rowIn c a) b s := by
  rw [product_apply]
  unfold part
  refine Finset.sum_congr rfl fun j _ => congrArg₂ (· * ·) ?_ ?_
  · rw [pageOf_apply]
    show (stFull m s : S8x512x512.Idx → EReal) (ix3 c a j) = _
    rw [stFull_apply, hX s, Layout.block_apply]
    refine congrArg X (funext fun i => ?_)
    match i with
    | 0 => exact Fin.ext rfl
    | 1 => exact Fin.ext (show s.val * 512 + j.val = 512 * s.val + j.val by omega)
  · rw [chunkOf_apply]
    show (wAt m c : S4096x2048.Idx → EReal) (ix2 (rowIn (bk c d.val) j) b) = _
    unfold wAt
    rw [hW c, h]

/-- After step `n` the output block holds the parts of the `n + 1` nearest devices at or before `c`. -/
theorem accN_apply (c : Dev nD) (a : Fin 512) (b : Fin 2048) : ∀ n < 8,
    (accN m c n : S512x2048.Idx → EReal) (ix2 a b) = ∑ d ∈ Finset.range (n + 1), part X W (rowIn c a) b (bk c d)
  | 0, _ => by
    rw [Finset.sum_range_one]
    have h : c = bk c 0 := Fin.ext (show c.val = (c.val + (8 - 0)) % 8 by have h8 : c.val < 8 := c.isLt; omega)
    show (k0_pay3 (pageOf (gaFull m c) c) (chunkOf (chFull m c) 0) : S512x2048.Idx → EReal) (ix2 a b) = _
    rw [page_chunk m X W hX hW c c 0 h, ← h]
  | n + 1, hn => by
    rw [Finset.sum_range_succ, ← accN_apply c a b n (by omega)]
    show (k0_pay4 (accN m c n) (pageOf (gaFull m c) (bk c (n + 1))) (chunkOf (chFull m c) (Fin.ofNat 8 (n + 1))) : S512x2048.Idx → EReal) (ix2 a b) = _
    rw [step_eq, page_chunk m X W hX hW c _ _ (by rw [show (Fin.ofNat 8 (n + 1)).val = n + 1 from Nat.mod_eq_of_lt hn])]

/-- All eight: the whole row of `x` times the whole column of the weights. -/
theorem acc_eq (c : Dev nD) (a : Fin 512) (b : Fin 2048) :
    (accN m c 7 : S512x2048.Idx → EReal) (ix2 a b) = ∑ k : Fin 4096, X (ix2 (rowIn c a) k) * W (ix2 k b) := by
  rw [accN_apply m X W hX hW c a b 7 (by decide), Finset.sum_range]
  have hb : Function.Bijective fun d : Fin 8 => bk c d.val := by revert c; decide
  rw [Function.Bijective.sum_comp hb (fun s => part X W (rowIn c a) b s)]
  refine Fin.sum_mul_add_congr (S := 8) (n := 512) (L := 4096) (fun s j hl => ?_)
  have e : rowIn s j = (⟨s.val * 512 + j.val, hl⟩ : Fin 4096) := Fin.ext (show 512 * s.val + j.val = s.val * 512 + j.val by omega)
  rw [e]

end Whole

/-- The device's result at row `a` and column `b`. -/
theorem outAt_apply (c : Dev nD) (A B : S1.Idx → EReal) (hA : m ((c : Thread nD τ).loc main_arg2) = A)
    (hB : m ((c : Thread nD τ).loc main_arg3) = B) (a : Fin 512) (b : Fin 2048) (z : S1.Idx) :
    (outAt m c : S512x2048.Idx → EReal) (ix2 a b) = (accN m c 7 : S512x2048.Idx → EReal) (ix2 a b) * (A z * B z) := by
  have hz (z z' : S1.Idx) : z = z' := funext fun i => match i with
    | 0 => Subsingleton.elim (α := Fin 1) (z 0) (z' 0)
  unfold outAt k0_pay18 k0_pay16 k0_pay17
  rw [shapeCast_self, s1stg_eq, s2stg_eq, hA, hB, hz z (Shape.Idx.first (numel1_S1.symm ▸ Nat.one_pos))]
  rfl

end Cert.KernelIdeal.Exchange

namespace Cert.Proof

open Idealize.ShloMosaic hiding ix1 ix2 ix3 eq_ix2
open Idealize.ShloMosaic.TcCoe
open Idealize.ShloMosaic.ValueIdx
open Idealize.SL.Sem

/-- The reference's result: the product of `x` and the weights, times the product of the scales. -/
def whole (X : FVec Ideal Cert.ReferenceIdeal.S4096x4096 .f32) (W : FVec Ideal Cert.ReferenceIdeal.S4096x2048 .f32)
    (A B : FVec Ideal Cert.ReferenceIdeal.S1 .f32) : FVec Ideal Cert.ReferenceIdeal.S4096x2048 .f32 :=
  mulf (Host.dotGeneral Cert.ReferenceIdeal.dot_S4096x4096_S4096x2048_S4096x2048_1_0_0_1_n_n none X W)
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf A B)))

theorem whole_apply (X : FVec Ideal Cert.ReferenceIdeal.S4096x4096 .f32) (W : FVec Ideal Cert.ReferenceIdeal.S4096x2048 .f32)
    (A B : FVec Ideal Cert.ReferenceIdeal.S1 .f32) (r : Fin 4096) (b : Fin 2048) :
    (whole X W A B : Cert.ReferenceIdeal.S4096x2048.Idx → EReal) (ix2 r b)
      = (∑ k : Fin 4096, (X : Cert.ReferenceIdeal.S4096x4096.Idx → EReal) (ix2 r k) * (W : Cert.ReferenceIdeal.S4096x2048.Idx → EReal) (ix2 k b))
        * ((A : Cert.ReferenceIdeal.S1.Idx → EReal) (ix1 0) * (B : Cert.ReferenceIdeal.S1.Idx → EReal) (ix1 0)) := by
  have e1 := StackMember.dotGeneral_plain_apply (m := 4096) (k := 4096) (n := 2048) none X W r b
  have e2 : broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf A B)) (ix2 r b) = mulf A B (ix1 0) := by
    refine (broadcastInDim_apply _ _ _ _ (ix2 0 0) fun a => ?_).trans (broadcastInDim_apply _ _ _ _ (ix1 0) fun a => ?_)
    · match a with
      | 0 => rfl
      | 1 => rfl
    · match a with
      | 0 => rfl
  exact congrArg₂ (fun x y : EReal => x * y) e1 e2

/-- Eight column blocks make up `x`, -/
theorem tiles_x : Layout.Tiles ⟨2, ![4096, 512]⟩ ⟨2, ![4096, 4096]⟩ 1 8 := by decide

/-- and eight row blocks the result. -/
theorem tiles_out : Layout.Tiles ⟨2, ![512, 2048]⟩ ⟨2, ![4096, 2048]⟩ 0 8 := by decide

/-- Each device's result is its row block of the reference's. -/
theorem outAt_block (m : (ℓ : Loc Cert.KernelIdeal.nD Cert.KernelIdeal.τ Cert.KernelIdeal.sig) → Buf (Elt Ideal) ℓ)
    (X : FVec Ideal Cert.ReferenceIdeal.S4096x4096 .f32) (W : FVec Ideal Cert.ReferenceIdeal.S4096x2048 .f32)
    (A B : FVec Ideal Cert.ReferenceIdeal.S1 .f32)
    (hX : ∀ c : Dev Cert.KernelIdeal.nD, m ((c.tc : Thread Cert.KernelIdeal.nD Cert.KernelIdeal.τ).loc Cert.KernelIdeal.main_arg0)
      = Layout.block ⟨2, ![4096, 512]⟩ ⟨2, ![4096, 4096]⟩ 1 8 c X tiles_x)
    (hW : ∀ c : Dev Cert.KernelIdeal.nD, m ((c.tc : Thread Cert.KernelIdeal.nD Cert.KernelIdeal.τ).loc Cert.KernelIdeal.main_arg1) = W)
    (hA : ∀ c : Dev Cert.KernelIdeal.nD, m ((c.tc : Thread Cert.KernelIdeal.nD Cert.KernelIdeal.τ).loc Cert.KernelIdeal.main_arg2) = A)
    (hB : ∀ c : Dev Cert.KernelIdeal.nD, m ((c.tc : Thread Cert.KernelIdeal.nD Cert.KernelIdeal.τ).loc Cert.KernelIdeal.main_arg3) = B)
    (c : Dev Cert.KernelIdeal.nD) :
    Cert.KernelIdeal.Exchange.outAt m c = Layout.block ⟨2, ![512, 2048]⟩ ⟨2, ![4096, 2048]⟩ 0 8 c (whole X W A B) tiles_out := by
  funext i
  obtain ⟨a, b, rfl⟩ : ∃ (a : Fin 512) (b : Fin 2048), i = ix2 a b := ⟨i 0, i 1, eq_ix2 (n0 := 512) (n1 := 2048) i⟩
  rw [Layout.block_apply]
  have e : (Layout.Tiles.idx (S := ⟨2, ![512, 2048]⟩) (T := ⟨2, ![4096, 2048]⟩) (a := 0) (k := 8) tiles_out c (ix2 a b))
      = ix2 (Cert.KernelIdeal.Exchange.rowIn c a) b := funext fun i => match i with
    | 0 => Fin.ext (show c.val * 512 + a.val = 512 * c.val + a.val by omega)
    | 1 => Fin.ext rfl
  rw [e, whole_apply]
  refine (Cert.KernelIdeal.Exchange.outAt_apply m c A B (hA c) (hB c) a b (ix1 0)).trans ?_
  rw [Cert.KernelIdeal.Exchange.acc_eq m X W hX hW c a b]

end Cert.Proof
-- ==== Proof.lean ====
/-
The proof of `Cert.Claim`: the frames of the kernel, of its ideal reading and of the reference, and the kernel's value
against the reference's. The run of the kernel is in Proof/Kernel and Proof/KernelIdeal, the value in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Final
public import proofs.«01_k».proof.Proof.KernelIdeal.Final
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, keeps its arguments and leaves every counter at zero. -/
theorem frame_kernel : Cert.quiescent_Kernel := fun m g _ =>
  (θ_run _ _ _).mono (fun _ h => ⟨fun c => (h.1 c).2, h.2⟩) (Cert.Kernel.Exchange.run_values m g)

/-- So does its ideal reading, -/
theorem frame_ideal : Cert.quiescent_KernelIdeal := fun m g _ =>
  (θ_run _ _ _).mono (fun _ h => ⟨fun c => (h.1 c).2, h.2⟩) (Cert.KernelIdeal.Exchange.run_values m g)

/-- and the reference, which has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The reference's device, and a buffer of it. -/
abbrev refAt (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-- From blocks of the reference's `x` and copies of its other arguments, each device ends with its row block of the
    reference's result. -/
theorem value : Cert.algebraic_KernelIdeal_ReferenceIdeal := by
  intro m g m' g' _ hm
  refine ⟨whole (m' (refAt Cert.ReferenceIdeal.main_arg0)) (m' (refAt Cert.ReferenceIdeal.main_arg1))
    (m' (refAt Cert.ReferenceIdeal.main_arg2)) (m' (refAt Cert.ReferenceIdeal.main_arg3)), ?_, ?_⟩
  · refine (θ_run _ _ _).mono (fun _ h c => ⟨(h.1 c).1.trans ?_, (h.1 c).2⟩) (Cert.KernelIdeal.Exchange.run_values m g)
    exact outAt_block m _ _ _ _ (fun c => (hm c).1) (fun c => (hm c).2.1) (fun c => (hm c).2.2.1) (fun c => (hm c).2.2.2) c
  · exact (θ_run _ _ _).mono (fun _ h => h 0) (Cert.ReferenceIdeal.Value.run m' g')

theorem claim : Cert.Claim := ⟨Cert.Kernel.Gen.facts, Cert.KernelIdeal.Gen.facts, Cert.ReferenceIdeal.Gen.facts,
  frame_kernel, frame_ideal, frame_reference, trivial, value⟩

end Cert.Proof

end
